-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8x256x56x56 : Shape := ⟨4, ![8, 256, 56, 56]⟩
abbrev S256x4 : Shape := ⟨2, ![256, 4]⟩
abbrev S8 : Shape := ⟨1, ![8]⟩
abbrev S256x1 : Shape := ⟨2, ![256, 1]⟩
abbrev S256 : Shape := ⟨1, ![256]⟩
abbrev S_ : Shape := ⟨0, ![]⟩

class Facts : Prop where
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S_S256 : S_.BroadcastsInDim S256 (![] : Fin 0 → Fin S256.rank)
  reducesTo_S256_S_d0 : S256.ReducesTo [0] S_
  h_S_ : 0 < S_.numel
  bcast_S_S8x256x56x56 : S_.BroadcastsInDim S8x256x56x56 (![] : Fin 0 → Fin S8x256x56x56.rank)
  reducesTo_S8x256x56x56_S_d0_1_2_3 : S8x256x56x56.ReducesTo [0, 1, 2, 3] S_

variable [Facts]

def fn_part2 {F : FTy → Type} [FloatOps F] (main_arg0 : FVec F S8x256x56x56 .f32) (main_v36 : IVec S256 1) (main_v37 : IVec S256 32) (main_c_8 : IVec S_ 32) : IVec S_ 1 :=
  let main_v38 : IVec S256 32 := broadcastInDim S256 ![] bcast_S_S256 main_c_8
  let main_v39 : IVec S256 1 := cmpi .sle main_v37 main_v38
  let main_v40 : IVec S256 1 := andi main_v36 main_v39
  let main_c_9 : IVec S_ 1 := constantI S_ 1 1#1
  let main_v41 : IVec S_ 1 := (fun x v => Host.reduce IntOp.andi x v reducesTo_S256_S_d0 h_S_) main_v40 main_c_9
  let main_cst : FVec F S_ .f32 := constant S_ .f32 0xFF800000#32
  let main_v42 : FVec F S8x256x56x56 .f32 := broadcastInDim S8x256x56x56 ![] bcast_S_S8x256x56x56 main_cst
  let main_v43 : IVec S8x256x56x56 1 := cmpf .ogt main_arg0 main_v42
  let main_c_10 : IVec S_ 1 := constantI S_ 1 1#1
  let main_v44 : IVec S_ 1 := (fun x v => Host.reduce IntOp.andi x v reducesTo_S8x256x56x56_S_d0_1_2_3 h_S_) main_v43 main_c_10
  let main_v45 : IVec S_ 1 := andi main_v41 main_v44
  main_v45

def fn_part1 {F : FTy → Type} [FloatOps F] (main_arg0 : FVec F S8x256x56x56 .f32) (main_v1 : IVec S256 32) (main_v3 : IVec S256 32) (main_v5 : IVec S256 32) (main_v7 : IVec S256 32) (main_v18 : IVec S256 1) (main_c_3 : IVec S_ 32) : IVec S_ 1 :=
  let main_v19 : IVec S256 32 := broadcastInDim S256 ![] bcast_S_S256 main_c_3
  let main_v20 : IVec S256 1 := cmpi .sle main_v5 main_v19
  let main_v21 : IVec S256 1 := andi main_v18 main_v20
  let main_c_4 : IVec S_ 32 := constantI S_ 32 56#32
  let main_v22 : IVec S256 32 := broadcastInDim S256 ![] bcast_S_S256 main_c_4
  let main_v23 : IVec S256 1 := cmpi .sle main_v7 main_v22
  let main_v24 : IVec S256 1 := andi main_v21 main_v23
  let main_v25 : IVec S256 32 := subi main_v5 main_v1
  let main_c_5 : IVec S_ 32 := constantI S_ 32 8#32
  let main_v26 : IVec S256 32 := broadcastInDim S256 ![] bcast_S_S256 main_c_5
  let main_v27 : IVec S256 1 := cmpi .sge main_v25 main_v26
  let main_v28 : IVec S256 1 := andi main_v24 main_v27
  let main_v29 : IVec S256 32 := subi main_v5 main_v1
  let main_c_6 : IVec S_ 32 := constantI S_ 32 27#32
  let main_v30 : IVec S256 32 := broadcastInDim S256 ![] bcast_S_S256 main_c_6
  let main_v31 : IVec S256 1 := cmpi .sle main_v29 main_v30
  let main_v32 : IVec S256 1 := andi main_v28 main_v31
  let main_v33 : IVec S256 32 := subi main_v7 main_v3
  let main_c_7 : IVec S_ 32 := constantI S_ 32 8#32
  let main_v34 : IVec S256 32 := broadcastInDim S256 ![] bcast_S_S256 main_c_7
  let main_v35 : IVec S256 1 := cmpi .sge main_v33 main_v34
  let main_v36 : IVec S256 1 := andi main_v32 main_v35
  let main_v37 : IVec S256 32 := subi main_v7 main_v3
  let main_c_8 : IVec S_ 32 := constantI S_ 32 27#32
  fn_part2 (F := F) main_arg0 main_v36 main_v37 main_c_8

def fn {F : FTy → Type} [FloatOps F] (main_arg0 : FVec F S8x256x56x56 .f32) (main_arg1 : IVec S256x4 32) (main_arg2 : IVec S8 32) : IVec S_ 1 :=
  let main_v0 : IVec S256x1 32 := (extractStridedSlice S256x1 ![0, 0] · slices_S256x4_S256x1_0_0) main_arg1
  let main_v1 : IVec S256 32 := shapeCast S256 main_v0 shapeCasts_S256x1_S256
  let main_v2 : IVec S256x1 32 := (extractStridedSlice S256x1 ![0, 1] · slices_S256x4_S256x1_0_1) main_arg1
  let main_v3 : IVec S256 32 := shapeCast S256 main_v2 shapeCasts_S256x1_S256
  let main_v4 : IVec S256x1 32 := (extractStridedSlice S256x1 ![0, 2] · slices_S256x4_S256x1_0_2) main_arg1
  let main_v5 : IVec S256 32 := shapeCast S256 main_v4 shapeCasts_S256x1_S256
  let main_v6 : IVec S256x1 32 := (extractStridedSlice S256x1 ![0, 3] · slices_S256x4_S256x1_0_3) main_arg1
  let main_v7 : IVec S256 32 := shapeCast S256 main_v6 shapeCasts_S256x1_S256
  let main_c : IVec S_ 32 := constantI S_ 32 0#32
  let main_v8 : IVec S256 32 := broadcastInDim S256 ![] bcast_S_S256 main_c
  let main_v9 : IVec S256 1 := cmpi .sge main_v1 main_v8
  let main_c_0 : IVec S_ 32 := constantI S_ 32 0#32
  let main_v10 : IVec S256 32 := broadcastInDim S256 ![] bcast_S_S256 main_c_0
  let main_v11 : IVec S256 1 := cmpi .sge main_v3 main_v10
  let main_v12 : IVec S256 1 := andi main_v9 main_v11
  let main_c_1 : IVec S_ 32 := constantI S_ 32 56#32
  let main_v13 : IVec S256 32 := broadcastInDim S256 ![] bcast_S_S256 main_c_1
  let main_v14 : IVec S256 1 := cmpi .sle main_v1 main_v13
  let main_v15 : IVec S256 1 := andi main_v12 main_v14
  let main_c_2 : IVec S_ 32 := constantI S_ 32 56#32
  let main_v16 : IVec S256 32 := broadcastInDim S256 ![] bcast_S_S256 main_c_2
  let main_v17 : IVec S256 1 := cmpi .sle main_v3 main_v16
  let main_v18 : IVec S256 1 := andi main_v15 main_v17
  let main_c_3 : IVec S_ 32 := constantI S_ 32 56#32
  fn_part1 (F := F) main_arg0 main_v1 main_v3 main_v5 main_v7 main_v18 main_c_3
-- ==== Pre_in_range.lean ====
abbrev S8x256x56x56 : Shape := ⟨4, ![8, 256, 56, 56]⟩
abbrev S256x4 : Shape := ⟨2, ![256, 4]⟩
abbrev S8 : Shape := ⟨1, ![8]⟩
abbrev S256x1 : Shape := ⟨2, ![256, 1]⟩
abbrev S256 : Shape := ⟨1, ![256]⟩
abbrev S_ : Shape := ⟨0, ![]⟩

class Facts : Prop where
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S_S256 : S_.BroadcastsInDim S256 (![] : Fin 0 → Fin S256.rank)
  reducesTo_S256_S_d0 : S256.ReducesTo [0] S_
  h_S_ : 0 < S_.numel

variable [Facts]

def fn_part2 {F : FTy → Type} [FloatOps F] (main_v36 : IVec S256 1) (main_v37 : IVec S256 32) (main_c_8 : IVec S_ 32) : IVec S_ 1 :=
  let main_v38 : IVec S256 32 := broadcastInDim S256 ![] bcast_S_S256 main_c_8
  let main_v39 : IVec S256 1 := cmpi .sle main_v37 main_v38
  let main_v40 : IVec S256 1 := andi main_v36 main_v39
  let main_c_9 : IVec S_ 1 := constantI S_ 1 1#1
  let main_v41 : IVec S_ 1 := (fun x v => Host.reduce IntOp.andi x v reducesTo_S256_S_d0 h_S_) main_v40 main_c_9
  main_v41

def fn_part1 {F : FTy → Type} [FloatOps F] (main_v1 : IVec S256 32) (main_v3 : IVec S256 32) (main_v5 : IVec S256 32) (main_v7 : IVec S256 32) (main_v18 : IVec S256 1) (main_c_3 : IVec S_ 32) : IVec S_ 1 :=
  let main_v19 : IVec S256 32 := broadcastInDim S256 ![] bcast_S_S256 main_c_3
  let main_v20 : IVec S256 1 := cmpi .sle main_v5 main_v19
  let main_v21 : IVec S256 1 := andi main_v18 main_v20
  let main_c_4 : IVec S_ 32 := constantI S_ 32 56#32
  let main_v22 : IVec S256 32 := broadcastInDim S256 ![] bcast_S_S256 main_c_4
  let main_v23 : IVec S256 1 := cmpi .sle main_v7 main_v22
  let main_v24 : IVec S256 1 := andi main_v21 main_v23
  let main_v25 : IVec S256 32 := subi main_v5 main_v1
  let main_c_5 : IVec S_ 32 := constantI S_ 32 8#32
  let main_v26 : IVec S256 32 := broadcastInDim S256 ![] bcast_S_S256 main_c_5
  let main_v27 : IVec S256 1 := cmpi .sge main_v25 main_v26
  let main_v28 : IVec S256 1 := andi main_v24 main_v27
  let main_v29 : IVec S256 32 := subi main_v5 main_v1
  let main_c_6 : IVec S_ 32 := constantI S_ 32 27#32
  let main_v30 : IVec S256 32 := broadcastInDim S256 ![] bcast_S_S256 main_c_6
  let main_v31 : IVec S256 1 := cmpi .sle main_v29 main_v30
  let main_v32 : IVec S256 1 := andi main_v28 main_v31
  let main_v33 : IVec S256 32 := subi main_v7 main_v3
  let main_c_7 : IVec S_ 32 := constantI S_ 32 8#32
  let main_v34 : IVec S256 32 := broadcastInDim S256 ![] bcast_S_S256 main_c_7
  let main_v35 : IVec S256 1 := cmpi .sge main_v33 main_v34
  let main_v36 : IVec S256 1 := andi main_v32 main_v35
  let main_v37 : IVec S256 32 := subi main_v7 main_v3
  let main_c_8 : IVec S_ 32 := constantI S_ 32 27#32
  fn_part2 (F := F) main_v36 main_v37 main_c_8

def fn {F : FTy → Type} [FloatOps F] (main_arg0 : FVec F S8x256x56x56 .f32) (main_arg1 : IVec S256x4 32) (main_arg2 : IVec S8 32) : IVec S_ 1 :=
  let main_v0 : IVec S256x1 32 := (extractStridedSlice S256x1 ![0, 0] · slices_S256x4_S256x1_0_0) main_arg1
  let main_v1 : IVec S256 32 := shapeCast S256 main_v0 shapeCasts_S256x1_S256
  let main_v2 : IVec S256x1 32 := (extractStridedSlice S256x1 ![0, 1] · slices_S256x4_S256x1_0_1) main_arg1
  let main_v3 : IVec S256 32 := shapeCast S256 main_v2 shapeCasts_S256x1_S256
  let main_v4 : IVec S256x1 32 := (extractStridedSlice S256x1 ![0, 2] · slices_S256x4_S256x1_0_2) main_arg1
  let main_v5 : IVec S256 32 := shapeCast S256 main_v4 shapeCasts_S256x1_S256
  let main_v6 : IVec S256x1 32 := (extractStridedSlice S256x1 ![0, 3] · slices_S256x4_S256x1_0_3) main_arg1
  let main_v7 : IVec S256 32 := shapeCast S256 main_v6 shapeCasts_S256x1_S256
  let main_c : IVec S_ 32 := constantI S_ 32 0#32
  let main_v8 : IVec S256 32 := broadcastInDim S256 ![] bcast_S_S256 main_c
  let main_v9 : IVec S256 1 := cmpi .sge main_v1 main_v8
  let main_c_0 : IVec S_ 32 := constantI S_ 32 0#32
  let main_v10 : IVec S256 32 := broadcastInDim S256 ![] bcast_S_S256 main_c_0
  let main_v11 : IVec S256 1 := cmpi .sge main_v3 main_v10
  let main_v12 : IVec S256 1 := andi main_v9 main_v11
  let main_c_1 : IVec S_ 32 := constantI S_ 32 56#32
  let main_v13 : IVec S256 32 := broadcastInDim S256 ![] bcast_S_S256 main_c_1
  let main_v14 : IVec S256 1 := cmpi .sle main_v1 main_v13
  let main_v15 : IVec S256 1 := andi main_v12 main_v14
  let main_c_2 : IVec S_ 32 := constantI S_ 32 56#32
  let main_v16 : IVec S256 32 := broadcastInDim S256 ![] bcast_S_S256 main_c_2
  let main_v17 : IVec S256 1 := cmpi .sle main_v3 main_v16
  let main_v18 : IVec S256 1 := andi main_v15 main_v17
  let main_c_3 : IVec S_ 32 := constantI S_ 32 56#32
  fn_part1 (F := F) main_v1 main_v3 main_v5 main_v7 main_v18 main_c_3
-- ==== Kernel.lean ====
abbrev S8x256x56x56 : Shape := ⟨4, ![8, 256, 56, 56]⟩
abbrev S256x4 : Shape := ⟨2, ![256, 4]⟩
abbrev S8 : Shape := ⟨1, ![8]⟩
abbrev S_ : Shape := ⟨0, ![]⟩
abbrev S8x56x56x256 : Shape := ⟨4, ![8, 56, 56, 256]⟩
abbrev S256x49x256 : Shape := ⟨3, ![256, 49, 256]⟩
abbrev S1x56x56x256 : Shape := ⟨4, ![1, 56, 56, 256]⟩
abbrev S1 : Shape := ⟨1, ![1]⟩
abbrev S2x49x256 : Shape := ⟨3, ![2, 49, 256]⟩
abbrev S2x44x8x256 : Shape := ⟨4, ![2, 44, 8, 256]⟩
abbrev S1x1 : Shape := ⟨2, ![1, 1]⟩
abbrev S1x4x40x256 : Shape := ⟨4, ![1, 4, 40, 256]⟩
abbrev S4x40x256 : Shape := ⟨3, ![4, 40, 256]⟩
abbrev S1x40x256 : Shape := ⟨3, ![1, 40, 256]⟩
abbrev S40x256 : Shape := ⟨2, ![40, 256]⟩
abbrev S1x40x1x256 : Shape := ⟨4, ![1, 40, 1, 256]⟩
abbrev S1x4x8x256 : Shape := ⟨4, ![1, 4, 8, 256]⟩
abbrev S4x8x256 : Shape := ⟨3, ![4, 8, 256]⟩
abbrev S1x8x256 : Shape := ⟨3, ![1, 8, 256]⟩
abbrev S8x256 : Shape := ⟨2, ![8, 256]⟩
abbrev S7x256 : Shape := ⟨2, ![7, 256]⟩
abbrev S1x7x256 : Shape := ⟨3, ![1, 7, 256]⟩
abbrev S256x7x7x256 : Shape := ⟨4, ![256, 7, 7, 256]⟩
abbrev S256x256x7x7 : Shape := ⟨4, ![256, 256, 7, 7]⟩

abbrev nBuf : Space → Nat
  | .hbm => 8
  | .vmem => 7
  | .smem => 2
  | _ => 0

abbrev bufTy : (tb : Table) → Fin (tcTables nBuf tb) → BufTy
  | .hbm, ⟨0, _⟩ => ⟨S8x256x56x56, .f32⟩
  | .hbm, ⟨1, _⟩ => ⟨S8, .i32⟩
  | .hbm, ⟨2, _⟩ => ⟨S_, .i32⟩
  | .hbm, ⟨3, _⟩ => ⟨S_, .i32⟩
  | .hbm, ⟨4, _⟩ => ⟨S8x56x56x256, .f32⟩
  | .hbm, ⟨5, _⟩ => ⟨S256x49x256, .f32⟩
  | .hbm, ⟨6, _⟩ => ⟨S256x7x7x256, .f32⟩
  | .hbm, ⟨7, _⟩ => ⟨S256x256x7x7, .f32⟩
  | .local _ .vmem, ⟨0, _⟩ => ⟨S1x56x56x256, .f32⟩
  | .local _ .vmem, ⟨1, _⟩ => ⟨S1x56x56x256, .f32⟩
  | .local _ .vmem, ⟨2, _⟩ => ⟨S1x56x56x256, .f32⟩
  | .local _ .vmem, ⟨3, _⟩ => ⟨S1x56x56x256, .f32⟩
  | .local _ .vmem, ⟨4, _⟩ => ⟨S2x49x256, .f32⟩
  | .local _ .vmem, ⟨5, _⟩ => ⟨S2x49x256, .f32⟩
  | .local _ .vmem, ⟨6, _⟩ => ⟨S2x44x8x256, .f32⟩
  | .local _ .smem, ⟨0, _⟩ => ⟨S8, .i32⟩
  | .local _ .smem, ⟨1, _⟩ => ⟨S256x4, .i32⟩
  | _, _ => ⟨S8x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_call0_call0_c : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_v0.idx, main_arg1.idx], fun | 0 => main_v0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c0 : Index := 0#32
  ![v2.toNat, 0]
def k0_off2 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v4 : Index := Scalar.indexCast v1
  let c1 : Index := 1#32
  ![v4.toNat, 1]
def k0_off3 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v6 : Index := Scalar.indexCast v1
  let c2 : Index := 2#32
  ![v6.toNat, 2]
def k0_off4 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v8 : Index := Scalar.indexCast v1
  let c3 : Index := 3#32
  ![v8.toNat, 3]
def k0_mult1 (v3 : BitVec 32) : BitVec 32 :=
  let c0_i32_1 : BitVec 32 := 0#32
  let v15 : BitVec 1 := Scalar.cmpi .sgt v3 c0_i32_1
  let v16 : BitVec 32 := Scalar.extui v15
  let c0_i32_2 : BitVec 32 := 0#32
  let v17 : BitVec 1 := Scalar.cmpi .slt v3 c0_i32_2
  let v18 : BitVec 32 := Scalar.extui v17
  let v19 : BitVec 32 := Scalar.subi v16 v18
  let c8_i32 : BitVec 32 := 8#32
  let c0_i32_3 : BitVec 32 := 0#32
  let v20 : BitVec 1 := Scalar.cmpi .sgt c8_i32 c0_i32_3
  let v21 : BitVec 32 := Scalar.extui v20
  let c0_i32_4 : BitVec 32 := 0#32
  let v22 : BitVec 1 := Scalar.cmpi .slt c8_i32 c0_i32_4
  let v23 : BitVec 32 := Scalar.extui v22
  let v24 : BitVec 32 := Scalar.subi v21 v23
  let v25 : BitVec 1 := Scalar.cmpi .ne v19 v24
  let v26 : BitVec 32 := Scalar.remsi v3 c8_i32
  let c0_i32_5 : BitVec 32 := 0#32
  let v27 : BitVec 1 := Scalar.cmpi .ne v26 c0_i32_5
  let v28 : BitVec 1 := Scalar.andi v25 v27
  let v14 : BitVec 32 := Scalar.divsi v3 c8_i32
  let c1_i32_6 : BitVec 32 := 1#32
  let v29 : BitVec 32 := Scalar.subi v14 c1_i32_6
  let v30 : BitVec 32 := Scalar.select v28 v29 v14
  let c8_i32_7 : BitVec 32 := 8#32
  let v31 : BitVec 32 := Scalar.muli v30 c8_i32_7
  let c16_i32 : BitVec 32 := 16#32
  let v32 : BitVec 32 := Scalar.minsi v31 c16_i32
  v32

def k0_chk1 (v3 : BitVec 32) : Prop :=
  (8 ∣ (k0_mult1 v3).toNat)
theorem k0_mult1_dvd : ∀ (v3 : BitVec 32) (k0_hw1 : k0_chk1 v3), 8 ∣ (k0_mult1 v3).toNat := fun v3 k0_hw1 => k0_hw1

def k0_off5 (v3 : BitVec 32) (v5 : BitVec 32) (v9 : BitVec 32) (c0_i32_8 : BitVec 32) : Fin 4 → Nat :=
  let c0_23 : Index := 0#32
  let v10 : BitVec 32 := Scalar.subi v9 v5
  let c1_i32 : BitVec 32 := 1#32
  let v11 : BitVec 32 := Scalar.maxsi v10 c1_i32
  let v35 : BitVec 32 := Scalar.muli c0_i32_8 v11
  let c0_i32_9 : BitVec 32 := 0#32
  let v37 : BitVec 1 := Scalar.cmpi .sgt v35 c0_i32_9
  let v38 : BitVec 32 := Scalar.extui v37
  let c0_i32_10 : BitVec 32 := 0#32
  let v39 : BitVec 1 := Scalar.cmpi .slt v35 c0_i32_10
  let v40 : BitVec 32 := Scalar.extui v39
  let v41 : BitVec 32 := Scalar.subi v38 v40
  let c7_i32 : BitVec 32 := 7#32
  let c0_i32_11 : BitVec 32 := 0#32
  let v42 : BitVec 1 := Scalar.cmpi .sgt c7_i32 c0_i32_11
  let v43 : BitVec 32 := Scalar.extui v42
  let c0_i32_12 : BitVec 32 := 0#32
  let v44 : BitVec 1 := Scalar.cmpi .slt c7_i32 c0_i32_12
  let v45 : BitVec 32 := Scalar.extui v44
  let v46 : BitVec 32 := Scalar.subi v43 v45
  let v47 : BitVec 1 := Scalar.cmpi .ne v41 v46
  let v48 : BitVec 32 := Scalar.remsi v35 c7_i32
  let c0_i32_13 : BitVec 32 := 0#32
  let v49 : BitVec 1 := Scalar.cmpi .ne v48 c0_i32_13
  let v50 : BitVec 1 := Scalar.andi v47 v49
  let v36 : BitVec 32 := Scalar.divsi v35 c7_i32
  let c1_i32_14 : BitVec 32 := 1#32
  let v51 : BitVec 32 := Scalar.subi v36 c1_i32_14
  let v52 : BitVec 32 := Scalar.select v50 v51 v36
  let v72 : BitVec 32 := Scalar.addi v5 v52
  let c52_i32 : BitVec 32 := 52#32
  let v73 : BitVec 32 := Scalar.minsi v72 c52_i32
  let v76 : Index := Scalar.indexCast v73
  let c0_i32_1 : BitVec 32 := 0#32
  let v15 : BitVec 1 := Scalar.cmpi .sgt v3 c0_i32_1
  let v16 : BitVec 32 := Scalar.extui v15
  let c0_i32_2 : BitVec 32 := 0#32
  let v17 : BitVec 1 := Scalar.cmpi .slt v3 c0_i32_2
  let v18 : BitVec 32 := Scalar.extui v17
  let v19 : BitVec 32 := Scalar.subi v16 v18
  let c8_i32 : BitVec 32 := 8#32
  let c0_i32_3 : BitVec 32 := 0#32
  let v20 : BitVec 1 := Scalar.cmpi .sgt c8_i32 c0_i32_3
  let v21 : BitVec 32 := Scalar.extui v20
  let c0_i32_4 : BitVec 32 := 0#32
  let v22 : BitVec 1 := Scalar.cmpi .slt c8_i32 c0_i32_4
  let v23 : BitVec 32 := Scalar.extui v22
  let v24 : BitVec 32 := Scalar.subi v21 v23
  let v25 : BitVec 1 := Scalar.cmpi .ne v19 v24
  let v26 : BitVec 32 := Scalar.remsi v3 c8_i32
  let c0_i32_5 : BitVec 32 := 0#32
  let v27 : BitVec 1 := Scalar.cmpi .ne v26 c0_i32_5
  let v28 : BitVec 1 := Scalar.andi v25 v27
  let v14 : BitVec 32 := Scalar.divsi v3 c8_i32
  let c1_i32_6 : BitVec 32 := 1#32
  let v29 : BitVec 32 := Scalar.subi v14 c1_i32_6
  let v30 : BitVec 32 := Scalar.select v28 v29 v14
  let c8_i32_7 : BitVec 32 := 8#32
  let v31 : BitVec 32 := Scalar.muli v30 c8_i32_7
  let c16_i32 : BitVec 32 := 16#32
  let v32 : BitVec 32 := Scalar.minsi v31 c16_i32
  let v33 : BitVec 32 := v32
  let v77 : Index := Scalar.indexCast v33
  let c0_24 : Index := 0#32
  ![0, v76.toNat, v77.toNat, 0]

def k0_chk2 (v3 : BitVec 32) (v5 : BitVec 32) (v9 : BitVec 32) : Prop :=
  (∀ (r : Fin 7), ∀ a, (k0_off5 v3 v5 v9 (BitVec.ofNat 32 r.val)) a + S1x4x40x256.size a ≤ S1x56x56x256.size a)
theorem k0_off5_inb : ∀ (v3 : BitVec 32) (v5 : BitVec 32) (v9 : BitVec 32) (k0_hw2 : k0_chk2 v3 v5 v9), ∀ (r : Fin 7), ∀ a, (k0_off5 v3 v5 v9 (BitVec.ofNat 32 r.val)) a + S1x4x40x256.size a ≤ S1x56x56x256.size a := fun v3 v5 v9 k0_hw2 r => k0_hw2 r

def k0_off6 (v3 : BitVec 32) (v7 : BitVec 32) (c0_i32_243 : BitVec 32) : Fin 4 → Nat :=
  let c0_267 : Index := 0#32
  let c0_i32_1 : BitVec 32 := 0#32
  let v15 : BitVec 1 := Scalar.cmpi .sgt v3 c0_i32_1
  let v16 : BitVec 32 := Scalar.extui v15
  let c0_i32_2 : BitVec 32 := 0#32
  let v17 : BitVec 1 := Scalar.cmpi .slt v3 c0_i32_2
  let v18 : BitVec 32 := Scalar.extui v17
  let v19 : BitVec 32 := Scalar.subi v16 v18
  let c8_i32 : BitVec 32 := 8#32
  let c0_i32_3 : BitVec 32 := 0#32
  let v20 : BitVec 1 := Scalar.cmpi .sgt c8_i32 c0_i32_3
  let v21 : BitVec 32 := Scalar.extui v20
  let c0_i32_4 : BitVec 32 := 0#32
  let v22 : BitVec 1 := Scalar.cmpi .slt c8_i32 c0_i32_4
  let v23 : BitVec 32 := Scalar.extui v22
  let v24 : BitVec 32 := Scalar.subi v21 v23
  let v25 : BitVec 1 := Scalar.cmpi .ne v19 v24
  let v26 : BitVec 32 := Scalar.remsi v3 c8_i32
  let c0_i32_5 : BitVec 32 := 0#32
  let v27 : BitVec 1 := Scalar.cmpi .ne v26 c0_i32_5
  let v28 : BitVec 1 := Scalar.andi v25 v27
  let v14 : BitVec 32 := Scalar.divsi v3 c8_i32
  let c1_i32_6 : BitVec 32 := 1#32
  let v29 : BitVec 32 := Scalar.subi v14 c1_i32_6
  let v30 : BitVec 32 := Scalar.select v28 v29 v14
  let c8_i32_7 : BitVec 32 := 8#32
  let v31 : BitVec 32 := Scalar.muli v30 c8_i32_7
  let c16_i32 : BitVec 32 := 16#32
  let v32 : BitVec 32 := Scalar.minsi v31 c16_i32
  let v33 : BitVec 32 := v32
  let v34 : BitVec 32 := Scalar.subi v3 v33
  let v12 : BitVec 32 := Scalar.subi v7 v3
  let c1_i32_0 : BitVec 32 := 1#32
  let v13 : BitVec 32 := Scalar.maxsi v12 c1_i32_0
  let v616 : BitVec 32 := Scalar.muli c0_i32_243 v13
  let c0_i32_245 : BitVec 32 := 0#32
  let v618 : BitVec 1 := Scalar.cmpi .sgt v616 c0_i32_245
  let v619 : BitVec 32 := Scalar.extui v618
  let c0_i32_246 : BitVec 32 := 0#32
  let v620 : BitVec 1 := Scalar.cmpi .slt v616 c0_i32_246
  let v621 : BitVec 32 := Scalar.extui v620
  let v622 : BitVec 32 := Scalar.subi v619 v621
  let c7_i32_244 : BitVec 32 := 7#32
  let c0_i32_247 : BitVec 32 := 0#32
  let v623 : BitVec 1 := Scalar.cmpi .sgt c7_i32_244 c0_i32_247
  let v624 : BitVec 32 := Scalar.extui v623
  let c0_i32_248 : BitVec 32 := 0#32
  let v625 : BitVec 1 := Scalar.cmpi .slt c7_i32_244 c0_i32_248
  let v626 : BitVec 32 := Scalar.extui v625
  let v627 : BitVec 32 := Scalar.subi v624 v626
  let v628 : BitVec 1 := Scalar.cmpi .ne v622 v627
  let v629 : BitVec 32 := Scalar.remsi v616 c7_i32_244
  let c0_i32_249 : BitVec 32 := 0#32
  let v630 : BitVec 1 := Scalar.cmpi .ne v629 c0_i32_249
  let v631 : BitVec 1 := Scalar.andi v628 v630
  let v617 : BitVec 32 := Scalar.divsi v616 c7_i32_244
  let c1_i32_250 : BitVec 32 := 1#32
  let v632 : BitVec 32 := Scalar.subi v617 c1_i32_250
  let v633 : BitVec 32 := Scalar.select v631 v632 v617
  let v634 : BitVec 32 := Scalar.addi v34 v633
  let v672 : Index := Scalar.indexCast v634
  let c0_268 : Index := 0#32
  let c0_269 : Index := 0#32
  ![0, v672.toNat, 0, 0]

def k0_chk3 (v3 : BitVec 32) (v7 : BitVec 32) : Prop :=
  (∀ (r : Fin 7), ∀ a, (k0_off6 v3 v7 (BitVec.ofNat 32 r.val)) a + S1x4x8x256.size a ≤ S2x44x8x256.size a)
theorem k0_off6_inb : ∀ (v3 : BitVec 32) (v7 : BitVec 32) (k0_hw3 : k0_chk3 v3 v7), ∀ (r : Fin 7), ∀ a, (k0_off6 v3 v7 (BitVec.ofNat 32 r.val)) a + S1x4x8x256.size a ≤ S2x44x8x256.size a := fun v3 v7 k0_hw3 r => k0_hw3 r

def k0_off7 (i : grid0.Coords) : Fin 2 → Nat :=
  let arg0 : BitVec 32 := BitVec.ofNat 32 (i 0).val
  let c2_i32_503 : BitVec 32 := 2#32
  let v1218 : BitVec 32 := Scalar.muli arg0 c2_i32_503
  let c1_i32_504 : BitVec 32 := 1#32
  let v1219 : BitVec 32 := Scalar.addi v1218 c1_i32_504
  let v1220 : Index := Scalar.indexCast v1219
  let c0_505 : Index := 0#32
  ![v1220.toNat, 0]
def k0_off8 (i : grid0.Coords) : Fin 2 → Nat :=
  let arg0 : BitVec 32 := BitVec.ofNat 32 (i 0).val
  let c2_i32_503 : BitVec 32 := 2#32
  let v1218 : BitVec 32 := Scalar.muli arg0 c2_i32_503
  let c1_i32_504 : BitVec 32 := 1#32
  let v1219 : BitVec 32 := Scalar.addi v1218 c1_i32_504
  let v1222 : Index := Scalar.indexCast v1219
  let c1_506 : Index := 1#32
  ![v1222.toNat, 1]
def k0_off9 (i : grid0.Coords) : Fin 2 → Nat :=
  let arg0 : BitVec 32 := BitVec.ofNat 32 (i 0).val
  let c2_i32_503 : BitVec 32 := 2#32
  let v1218 : BitVec 32 := Scalar.muli arg0 c2_i32_503
  let c1_i32_504 : BitVec 32 := 1#32
  let v1219 : BitVec 32 := Scalar.addi v1218 c1_i32_504
  let v1224 : Index := Scalar.indexCast v1219
  let c2_507 : Index := 2#32
  ![v1224.toNat, 2]
def k0_off10 (i : grid0.Coords) : Fin 2 → Nat :=
  let arg0 : BitVec 32 := BitVec.ofNat 32 (i 0).val
  let c2_i32_503 : BitVec 32 := 2#32
  let v1218 : BitVec 32 := Scalar.muli arg0 c2_i32_503
  let c1_i32_504 : BitVec 32 := 1#32
  let v1219 : BitVec 32 := Scalar.addi v1218 c1_i32_504
  let v1226 : Index := Scalar.indexCast v1219
  let c3_508 : Index := 3#32
  ![v1226.toNat, 3]
def k0_mult2 (v1221 : BitVec 32) : BitVec 32 :=
  let c0_i32_512 : BitVec 32 := 0#32
  let v1233 : BitVec 1 := Scalar.cmpi .sgt v1221 c0_i32_512
  let v1234 : BitVec 32 := Scalar.extui v1233
  let c0_i32_513 : BitVec 32 := 0#32
  let v1235 : BitVec 1 := Scalar.cmpi .slt v1221 c0_i32_513
  let v1236 : BitVec 32 := Scalar.extui v1235
  let v1237 : BitVec 32 := Scalar.subi v1234 v1236
  let c8_i32_511 : BitVec 32 := 8#32
  let c0_i32_514 : BitVec 32 := 0#32
  let v1238 : BitVec 1 := Scalar.cmpi .sgt c8_i32_511 c0_i32_514
  let v1239 : BitVec 32 := Scalar.extui v1238
  let c0_i32_515 : BitVec 32 := 0#32
  let v1240 : BitVec 1 := Scalar.cmpi .slt c8_i32_511 c0_i32_515
  let v1241 : BitVec 32 := Scalar.extui v1240
  let v1242 : BitVec 32 := Scalar.subi v1239 v1241
  let v1243 : BitVec 1 := Scalar.cmpi .ne v1237 v1242
  let v1244 : BitVec 32 := Scalar.remsi v1221 c8_i32_511
  let c0_i32_516 : BitVec 32 := 0#32
  let v1245 : BitVec 1 := Scalar.cmpi .ne v1244 c0_i32_516
  let v1246 : BitVec 1 := Scalar.andi v1243 v1245
  let v1232 : BitVec 32 := Scalar.divsi v1221 c8_i32_511
  let c1_i32_517 : BitVec 32 := 1#32
  let v1247 : BitVec 32 := Scalar.subi v1232 c1_i32_517
  let v1248 : BitVec 32 := Scalar.select v1246 v1247 v1232
  let c8_i32_518 : BitVec 32 := 8#32
  let v1249 : BitVec 32 := Scalar.muli v1248 c8_i32_518
  let c16_i32_519 : BitVec 32 := 16#32
  let v1250 : BitVec 32 := Scalar.minsi v1249 c16_i32_519
  v1250

def k0_chk4 (v1221 : BitVec 32) : Prop :=
  (8 ∣ (k0_mult2 v1221).toNat)
theorem k0_mult2_dvd : ∀ (v1221 : BitVec 32) (k0_hw4 : k0_chk4 v1221), 8 ∣ (k0_mult2 v1221).toNat := fun v1221 k0_hw4 => k0_hw4

def k0_off11 (v1221 : BitVec 32) (v1223 : BitVec 32) (v1227 : BitVec 32) (c0_i32_520 : BitVec 32) : Fin 4 → Nat :=
  let c0_537 : Index := 0#32
  let v1228 : BitVec 32 := Scalar.subi v1227 v1223
  let c1_i32_509 : BitVec 32 := 1#32
  let v1229 : BitVec 32 := Scalar.maxsi v1228 c1_i32_509
  let v1253 : BitVec 32 := Scalar.muli c0_i32_520 v1229
  let c0_i32_522 : BitVec 32 := 0#32
  let v1255 : BitVec 1 := Scalar.cmpi .sgt v1253 c0_i32_522
  let v1256 : BitVec 32 := Scalar.extui v1255
  let c0_i32_523 : BitVec 32 := 0#32
  let v1257 : BitVec 1 := Scalar.cmpi .slt v1253 c0_i32_523
  let v1258 : BitVec 32 := Scalar.extui v1257
  let v1259 : BitVec 32 := Scalar.subi v1256 v1258
  let c7_i32_521 : BitVec 32 := 7#32
  let c0_i32_524 : BitVec 32 := 0#32
  let v1260 : BitVec 1 := Scalar.cmpi .sgt c7_i32_521 c0_i32_524
  let v1261 : BitVec 32 := Scalar.extui v1260
  let c0_i32_525 : BitVec 32 := 0#32
  let v1262 : BitVec 1 := Scalar.cmpi .slt c7_i32_521 c0_i32_525
  let v1263 : BitVec 32 := Scalar.extui v1262
  let v1264 : BitVec 32 := Scalar.subi v1261 v1263
  let v1265 : BitVec 1 := Scalar.cmpi .ne v1259 v1264
  let v1266 : BitVec 32 := Scalar.remsi v1253 c7_i32_521
  let c0_i32_526 : BitVec 32 := 0#32
  let v1267 : BitVec 1 := Scalar.cmpi .ne v1266 c0_i32_526
  let v1268 : BitVec 1 := Scalar.andi v1265 v1267
  let v1254 : BitVec 32 := Scalar.divsi v1253 c7_i32_521
  let c1_i32_527 : BitVec 32 := 1#32
  let v1269 : BitVec 32 := Scalar.subi v1254 c1_i32_527
  let v1270 : BitVec 32 := Scalar.select v1268 v1269 v1254
  let v1290 : BitVec 32 := Scalar.addi v1223 v1270
  let c52_i32_536 : BitVec 32 := 52#32
  let v1291 : BitVec 32 := Scalar.minsi v1290 c52_i32_536
  let v1294 : Index := Scalar.indexCast v1291
  let c0_i32_512 : BitVec 32 := 0#32
  let v1233 : BitVec 1 := Scalar.cmpi .sgt v1221 c0_i32_512
  let v1234 : BitVec 32 := Scalar.extui v1233
  let c0_i32_513 : BitVec 32 := 0#32
  let v1235 : BitVec 1 := Scalar.cmpi .slt v1221 c0_i32_513
  let v1236 : BitVec 32 := Scalar.extui v1235
  let v1237 : BitVec 32 := Scalar.subi v1234 v1236
  let c8_i32_511 : BitVec 32 := 8#32
  let c0_i32_514 : BitVec 32 := 0#32
  let v1238 : BitVec 1 := Scalar.cmpi .sgt c8_i32_511 c0_i32_514
  let v1239 : BitVec 32 := Scalar.extui v1238
  let c0_i32_515 : BitVec 32 := 0#32
  let v1240 : BitVec 1 := Scalar.cmpi .slt c8_i32_511 c0_i32_515
  let v1241 : BitVec 32 := Scalar.extui v1240
  let v1242 : BitVec 32 := Scalar.subi v1239 v1241
  let v1243 : BitVec 1 := Scalar.cmpi .ne v1237 v1242
  let v1244 : BitVec 32 := Scalar.remsi v1221 c8_i32_511
  let c0_i32_516 : BitVec 32 := 0#32
  let v1245 : BitVec 1 := Scalar.cmpi .ne v1244 c0_i32_516
  let v1246 : BitVec 1 := Scalar.andi v1243 v1245
  let v1232 : BitVec 32 := Scalar.divsi v1221 c8_i32_511
  let c1_i32_517 : BitVec 32 := 1#32
  let v1247 : BitVec 32 := Scalar.subi v1232 c1_i32_517
  let v1248 : BitVec 32 := Scalar.select v1246 v1247 v1232
  let c8_i32_518 : BitVec 32 := 8#32
  let v1249 : BitVec 32 := Scalar.muli v1248 c8_i32_518
  let c16_i32_519 : BitVec 32 := 16#32
  let v1250 : BitVec 32 := Scalar.minsi v1249 c16_i32_519
  let v1251 : BitVec 32 := v1250
  let v1295 : Index := Scalar.indexCast v1251
  let c0_538 : Index := 0#32
  ![0, v1294.toNat, v1295.toNat, 0]

def k0_chk5 (v1221 : BitVec 32) (v1223 : BitVec 32) (v1227 : BitVec 32) : Prop :=
  (∀ (r : Fin 7), ∀ a, (k0_off11 v1221 v1223 v1227 (BitVec.ofNat 32 r.val)) a + S1x4x40x256.size a ≤ S1x56x56x256.size a)
theorem k0_off11_inb : ∀ (v1221 : BitVec 32) (v1223 : BitVec 32) (v1227 : BitVec 32) (k0_hw5 : k0_chk5 v1221 v1223 v1227), ∀ (r : Fin 7), ∀ a, (k0_off11 v1221 v1223 v1227 (BitVec.ofNat 32 r.val)) a + S1x4x40x256.size a ≤ S1x56x56x256.size a := fun v1221 v1223 v1227 k0_hw5 r => k0_hw5 r

def k0_off12 (v1221 : BitVec 32) (v1225 : BitVec 32) (c0_i32_765 : BitVec 32) : Fin 4 → Nat :=
  let c1_789 : Index := 1#32
  let c0_i32_512 : BitVec 32 := 0#32
  let v1233 : BitVec 1 := Scalar.cmpi .sgt v1221 c0_i32_512
  let v1234 : BitVec 32 := Scalar.extui v1233
  let c0_i32_513 : BitVec 32 := 0#32
  let v1235 : BitVec 1 := Scalar.cmpi .slt v1221 c0_i32_513
  let v1236 : BitVec 32 := Scalar.extui v1235
  let v1237 : BitVec 32 := Scalar.subi v1234 v1236
  let c8_i32_511 : BitVec 32 := 8#32
  let c0_i32_514 : BitVec 32 := 0#32
  let v1238 : BitVec 1 := Scalar.cmpi .sgt c8_i32_511 c0_i32_514
  let v1239 : BitVec 32 := Scalar.extui v1238
  let c0_i32_515 : BitVec 32 := 0#32
  let v1240 : BitVec 1 := Scalar.cmpi .slt c8_i32_511 c0_i32_515
  let v1241 : BitVec 32 := Scalar.extui v1240
  let v1242 : BitVec 32 := Scalar.subi v1239 v1241
  let v1243 : BitVec 1 := Scalar.cmpi .ne v1237 v1242
  let v1244 : BitVec 32 := Scalar.remsi v1221 c8_i32_511
  let c0_i32_516 : BitVec 32 := 0#32
  let v1245 : BitVec 1 := Scalar.cmpi .ne v1244 c0_i32_516
  let v1246 : BitVec 1 := Scalar.andi v1243 v1245
  let v1232 : BitVec 32 := Scalar.divsi v1221 c8_i32_511
  let c1_i32_517 : BitVec 32 := 1#32
  let v1247 : BitVec 32 := Scalar.subi v1232 c1_i32_517
  let v1248 : BitVec 32 := Scalar.select v1246 v1247 v1232
  let c8_i32_518 : BitVec 32 := 8#32
  let v1249 : BitVec 32 := Scalar.muli v1248 c8_i32_518
  let c16_i32_519 : BitVec 32 := 16#32
  let v1250 : BitVec 32 := Scalar.minsi v1249 c16_i32_519
  let v1251 : BitVec 32 := v1250
  let v1252 : BitVec 32 := Scalar.subi v1221 v1251
  let v1230 : BitVec 32 := Scalar.subi v1225 v1221
  let c1_i32_510 : BitVec 32 := 1#32
  let v1231 : BitVec 32 := Scalar.maxsi v1230 c1_i32_510
  let v1834 : BitVec 32 := Scalar.muli c0_i32_765 v1231
  let c0_i32_767 : BitVec 32 := 0#32
  let v1836 : BitVec 1 := Scalar.cmpi .sgt v1834 c0_i32_767
  let v1837 : BitVec 32 := Scalar.extui v1836
  let c0_i32_768 : BitVec 32 := 0#32
  let v1838 : BitVec 1 := Scalar.cmpi .slt v1834 c0_i32_768
  let v1839 : BitVec 32 := Scalar.extui v1838
  let v1840 : BitVec 32 := Scalar.subi v1837 v1839
  let c7_i32_766 : BitVec 32 := 7#32
  let c0_i32_769 : BitVec 32 := 0#32
  let v1841 : BitVec 1 := Scalar.cmpi .sgt c7_i32_766 c0_i32_769
  let v1842 : BitVec 32 := Scalar.extui v1841
  let c0_i32_770 : BitVec 32 := 0#32
  let v1843 : BitVec 1 := Scalar.cmpi .slt c7_i32_766 c0_i32_770
  let v1844 : BitVec 32 := Scalar.extui v1843
  let v1845 : BitVec 32 := Scalar.subi v1842 v1844
  let v1846 : BitVec 1 := Scalar.cmpi .ne v1840 v1845
  let v1847 : BitVec 32 := Scalar.remsi v1834 c7_i32_766
  let c0_i32_771 : BitVec 32 := 0#32
  let v1848 : BitVec 1 := Scalar.cmpi .ne v1847 c0_i32_771
  let v1849 : BitVec 1 := Scalar.andi v1846 v1848
  let v1835 : BitVec 32 := Scalar.divsi v1834 c7_i32_766
  let c1_i32_772 : BitVec 32 := 1#32
  let v1850 : BitVec 32 := Scalar.subi v1835 c1_i32_772
  let v1851 : BitVec 32 := Scalar.select v1849 v1850 v1835
  let v1852 : BitVec 32 := Scalar.addi v1252 v1851
  let v1890 : Index := Scalar.indexCast v1852
  let c0_790 : Index := 0#32
  let c0_791 : Index := 0#32
  ![1, v1890.toNat, 0, 0]

def k0_chk6 (v1221 : BitVec 32) (v1225 : BitVec 32) : Prop :=
  (∀ (r : Fin 7), ∀ a, (k0_off12 v1221 v1225 (BitVec.ofNat 32 r.val)) a + S1x4x8x256.size a ≤ S2x44x8x256.size a)
theorem k0_off12_inb : ∀ (v1221 : BitVec 32) (v1225 : BitVec 32) (k0_hw6 : k0_chk6 v1221 v1225), ∀ (r : Fin 7), ∀ a, (k0_off12 v1221 v1225 (BitVec.ofNat 32 r.val)) a + S1x4x8x256.size a ≤ S2x44x8x256.size a := fun v1221 v1225 k0_hw6 r => k0_hw6 r

def cc0_transform_0 (inb_S8_S1_0 : ∀ a, (![0] : Fin 1 → Nat) a + S1.size a ≤ S8.size a) (numel1_S1 : S1.numel = 1) (inb_S8_S1_1 : ∀ a, (![1] : Fin 1 → Nat) a + S1.size a ≤ S8.size a) (inb_S8_S1_2 : ∀ a, (![2] : Fin 1 → Nat) a + S1.size a ≤ S8.size a) (inb_S8_S1_3 : ∀ a, (![3] : Fin 1 → Nat) a + S1.size a ≤ S8.size a) (inb_S8_S1_4 : ∀ a, (![4] : Fin 1 → Nat) a + S1.size a ≤ S8.size a) (inb_S8_S1_5 : ∀ a, (![5] : Fin 1 → Nat) a + S1.size a ≤ S8.size a) (inb_S8_S1_6 : ∀ a, (![6] : Fin 1 → Nat) a + S1.size a ≤ S8.size a) (inb_S8_S1_7 : ∀ a, (![7] : Fin 1 → Nat) a + S1.size a ≤ S8.size a) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1_i32 : BitVec 32 := 1#32
  let v2 : BitVec 32 := Scalar.subi v1 c1_i32
  let c0 : Index := 0#32
  let v3 : BitVec 32 := pf.at 0 (Rect.unit (s := S8) ![0] S1.size inb_S8_S1_0) numel1_S1
  let v4 : BitVec 1 := Scalar.cmpi .sge v2 v3
  let c1_i32_0 : BitVec 32 := 1#32
  let c0_i32_1 : BitVec 32 := 0#32
  let v5 : BitVec 32 := Scalar.select v4 c1_i32_0 c0_i32_1
  let c0_i32_2 : BitVec 32 := 0#32
  let v6 : BitVec 32 := Scalar.addi c0_i32_2 v5
  let c1_i32_3 : BitVec 32 := 1#32
  let v7 : BitVec 32 := Scalar.subi v1 c1_i32_3
  let c1 : Index := 1#32
  let v8 : BitVec 32 := pf.at 0 (Rect.unit (s := S8) ![1] S1.size inb_S8_S1_1) numel1_S1
  let v9 : BitVec 1 := Scalar.cmpi .sge v7 v8
  let c1_i32_4 : BitVec 32 := 1#32
  let c0_i32_5 : BitVec 32 := 0#32
  let v10 : BitVec 32 := Scalar.select v9 c1_i32_4 c0_i32_5
  let v11 : BitVec 32 := Scalar.addi v6 v10
  let c1_i32_6 : BitVec 32 := 1#32
  let v12 : BitVec 32 := Scalar.subi v1 c1_i32_6
  let c2 : Index := 2#32
  let v13 : BitVec 32 := pf.at 0 (Rect.unit (s := S8) ![2] S1.size inb_S8_S1_2) numel1_S1
  let v14 : BitVec 1 := Scalar.cmpi .sge v12 v13
  let c1_i32_7 : BitVec 32 := 1#32
  let c0_i32_8 : BitVec 32 := 0#32
  let v15 : BitVec 32 := Scalar.select v14 c1_i32_7 c0_i32_8
  let v16 : BitVec 32 := Scalar.addi v11 v15
  let c1_i32_9 : BitVec 32 := 1#32
  let v17 : BitVec 32 := Scalar.subi v1 c1_i32_9
  let c3 : Index := 3#32
  let v18 : BitVec 32 := pf.at 0 (Rect.unit (s := S8) ![3] S1.size inb_S8_S1_3) numel1_S1
  let v19 : BitVec 1 := Scalar.cmpi .sge v17 v18
  let c1_i32_10 : BitVec 32 := 1#32
  let c0_i32_11 : BitVec 32 := 0#32
  let v20 : BitVec 32 := Scalar.select v19 c1_i32_10 c0_i32_11
  let v21 : BitVec 32 := Scalar.addi v16 v20
  let c1_i32_12 : BitVec 32 := 1#32
  let v22 : BitVec 32 := Scalar.subi v1 c1_i32_12
  let c4 : Index := 4#32
  let v23 : BitVec 32 := pf.at 0 (Rect.unit (s := S8) ![4] S1.size inb_S8_S1_4) numel1_S1
  let v24 : BitVec 1 := Scalar.cmpi .sge v22 v23
  let c1_i32_13 : BitVec 32 := 1#32
  let c0_i32_14 : BitVec 32 := 0#32
  let v25 : BitVec 32 := Scalar.select v24 c1_i32_13 c0_i32_14
  let v26 : BitVec 32 := Scalar.addi v21 v25
  let c1_i32_15 : BitVec 32 := 1#32
  let v27 : BitVec 32 := Scalar.subi v1 c1_i32_15
  let c5 : Index := 5#32
  let v28 : BitVec 32 := pf.at 0 (Rect.unit (s := S8) ![5] S1.size inb_S8_S1_5) numel1_S1
  let v29 : BitVec 1 := Scalar.cmpi .sge v27 v28
  let c1_i32_16 : BitVec 32 := 1#32
  let c0_i32_17 : BitVec 32 := 0#32
  let v30 : BitVec 32 := Scalar.select v29 c1_i32_16 c0_i32_17
  let v31 : BitVec 32 := Scalar.addi v26 v30
  let c1_i32_18 : BitVec 32 := 1#32
  let v32 : BitVec 32 := Scalar.subi v1 c1_i32_18
  let c6 : Index := 6#32
  let v33 : BitVec 32 := pf.at 0 (Rect.unit (s := S8) ![6] S1.size inb_S8_S1_6) numel1_S1
  let v34 : BitVec 1 := Scalar.cmpi .sge v32 v33
  let c1_i32_19 : BitVec 32 := 1#32
  let c0_i32_20 : BitVec 32 := 0#32
  let v35 : BitVec 32 := Scalar.select v34 c1_i32_19 c0_i32_20
  let v36 : BitVec 32 := Scalar.addi v31 v35
  let c1_i32_21 : BitVec 32 := 1#32
  let v37 : BitVec 32 := Scalar.subi v1 c1_i32_21
  let c7 : Index := 7#32
  let v38 : BitVec 32 := pf.at 0 (Rect.unit (s := S8) ![7] S1.size inb_S8_S1_7) numel1_S1
  let v39 : BitVec 1 := Scalar.cmpi .sge v37 v38
  let c1_i32_22 : BitVec 32 := 1#32
  let c0_i32_23 : BitVec 32 := 0#32
  let v40 : BitVec 32 := Scalar.select v39 c1_i32_22 c0_i32_23
  let v41 : BitVec 32 := Scalar.addi v36 v40
  let c7_i32 : BitVec 32 := 7#32
  let v42 : BitVec 32 := Scalar.minsi v41 c7_i32
  let c0_i32_24 : BitVec 32 := 0#32
  let c0_i32_25 : BitVec 32 := 0#32
  let c0_i32_26 : BitVec 32 := 0#32
  let c0_i32_27 : BitVec 32 := 0#32
  ![v42.toNat, c0_i32_24.toNat, c0_i32_25.toNat, c0_i32_26.toNat]

def cc0_transform_1 (inb_S8_S1_0 : ∀ a, (![0] : Fin 1 → Nat) a + S1.size a ≤ S8.size a) (numel1_S1 : S1.numel = 1) (inb_S8_S1_1 : ∀ a, (![1] : Fin 1 → Nat) a + S1.size a ≤ S8.size a) (inb_S8_S1_2 : ∀ a, (![2] : Fin 1 → Nat) a + S1.size a ≤ S8.size a) (inb_S8_S1_3 : ∀ a, (![3] : Fin 1 → Nat) a + S1.size a ≤ S8.size a) (inb_S8_S1_4 : ∀ a, (![4] : Fin 1 → Nat) a + S1.size a ≤ S8.size a) (inb_S8_S1_5 : ∀ a, (![5] : Fin 1 → Nat) a + S1.size a ≤ S8.size a) (inb_S8_S1_6 : ∀ a, (![6] : Fin 1 → Nat) a + S1.size a ≤ S8.size a) (inb_S8_S1_7 : ∀ a, (![7] : Fin 1 → Nat) a + S1.size a ≤ S8.size a) (pf : pre0.Contents (Elt F)) (i : grid0.Coords) : Fin 4 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c1_i32_0 : BitVec 32 := 1#32
  let v2 : BitVec 32 := Scalar.subi v1 c1_i32_0
  let c0 : Index := 0#32
  let v3 : BitVec 32 := pf.at 0 (Rect.unit (s := S8) ![0] S1.size inb_S8_S1_0) numel1_S1
  let v4 : BitVec 1 := Scalar.cmpi .sge v2 v3
  let c1_i32_1 : BitVec 32 := 1#32
  let c0_i32 : BitVec 32 := 0#32
  let v5 : BitVec 32 := Scalar.select v4 c1_i32_1 c0_i32
  let c0_i32_2 : BitVec 32 := 0#32
  let v6 : BitVec 32 := Scalar.addi c0_i32_2 v5
  let c1_i32_3 : BitVec 32 := 1#32
  let v7 : BitVec 32 := Scalar.subi v1 c1_i32_3
  let c1 : Index := 1#32
  let v8 : BitVec 32 := pf.at 0 (Rect.unit (s := S8) ![1] S1.size inb_S8_S1_1) numel1_S1
  let v9 : BitVec 1 := Scalar.cmpi .sge v7 v8
  let c1_i32_4 : BitVec 32 := 1#32
  let c0_i32_5 : BitVec 32 := 0#32
  let v10 : BitVec 32 := Scalar.select v9 c1_i32_4 c0_i32_5
  let v11 : BitVec 32 := Scalar.addi v6 v10
  let c1_i32_6 : BitVec 32 := 1#32
  let v12 : BitVec 32 := Scalar.subi v1 c1_i32_6
  let c2 : Index := 2#32
  let v13 : BitVec 32 := pf.at 0 (Rect.unit (s := S8) ![2] S1.size inb_S8_S1_2) numel1_S1
  let v14 : BitVec 1 := Scalar.cmpi .sge v12 v13
  let c1_i32_7 : BitVec 32 := 1#32
  let c0_i32_8 : BitVec 32 := 0#32
  let v15 : BitVec 32 := Scalar.select v14 c1_i32_7 c0_i32_8
  let v16 : BitVec 32 := Scalar.addi v11 v15
  let c1_i32_9 : BitVec 32 := 1#32
  let v17 : BitVec 32 := Scalar.subi v1 c1_i32_9
  let c3 : Index := 3#32
  let v18 : BitVec 32 := pf.at 0 (Rect.unit (s := S8) ![3] S1.size inb_S8_S1_3) numel1_S1
  let v19 : BitVec 1 := Scalar.cmpi .sge v17 v18
  let c1_i32_10 : BitVec 32 := 1#32
  let c0_i32_11 : BitVec 32 := 0#32
  let v20 : BitVec 32 := Scalar.select v19 c1_i32_10 c0_i32_11
  let v21 : BitVec 32 := Scalar.addi v16 v20
  let c1_i32_12 : BitVec 32 := 1#32
  let v22 : BitVec 32 := Scalar.subi v1 c1_i32_12
  let c4 : Index := 4#32
  let v23 : BitVec 32 := pf.at 0 (Rect.unit (s := S8) ![4] S1.size inb_S8_S1_4) numel1_S1
  let v24 : BitVec 1 := Scalar.cmpi .sge v22 v23
  let c1_i32_13 : BitVec 32 := 1#32
  let c0_i32_14 : BitVec 32 := 0#32
  let v25 : BitVec 32 := Scalar.select v24 c1_i32_13 c0_i32_14
  let v26 : BitVec 32 := Scalar.addi v21 v25
  let c1_i32_15 : BitVec 32 := 1#32
  let v27 : BitVec 32 := Scalar.subi v1 c1_i32_15
  let c5 : Index := 5#32
  let v28 : BitVec 32 := pf.at 0 (Rect.unit (s := S8) ![5] S1.size inb_S8_S1_5) numel1_S1
  let v29 : BitVec 1 := Scalar.cmpi .sge v27 v28
  let c1_i32_16 : BitVec 32 := 1#32
  let c0_i32_17 : BitVec 32 := 0#32
  let v30 : BitVec 32 := Scalar.select v29 c1_i32_16 c0_i32_17
  let v31 : BitVec 32 := Scalar.addi v26 v30
  let c1_i32_18 : BitVec 32 := 1#32
  let v32 : BitVec 32 := Scalar.subi v1 c1_i32_18
  let c6 : Index := 6#32
  let v33 : BitVec 32 := pf.at 0 (Rect.unit (s := S8) ![6] S1.size inb_S8_S1_6) numel1_S1
  let v34 : BitVec 1 := Scalar.cmpi .sge v32 v33
  let c1_i32_19 : BitVec 32 := 1#32
  let c0_i32_20 : BitVec 32 := 0#32
  let v35 : BitVec 32 := Scalar.select v34 c1_i32_19 c0_i32_20
  let v36 : BitVec 32 := Scalar.addi v31 v35
  let c1_i32_21 : BitVec 32 := 1#32
  let v37 : BitVec 32 := Scalar.subi v1 c1_i32_21
  let c7 : Index := 7#32
  let v38 : BitVec 32 := pf.at 0 (Rect.unit (s := S8) ![7] S1.size inb_S8_S1_7) numel1_S1
  let v39 : BitVec 1 := Scalar.cmpi .sge v37 v38
  let c1_i32_22 : BitVec 32 := 1#32
  let c0_i32_23 : BitVec 32 := 0#32
  let v40 : BitVec 32 := Scalar.select v39 c1_i32_22 c0_i32_23
  let v41 : BitVec 32 := Scalar.addi v36 v40
  let c7_i32 : BitVec 32 := 7#32
  let v42 : BitVec 32 := Scalar.minsi v41 c7_i32
  let c0_i32_24 : BitVec 32 := 0#32
  let c0_i32_25 : BitVec 32 := 0#32
  let c0_i32_26 : BitVec 32 := 0#32
  let c0_i32_27 : BitVec 32 := 0#32
  ![v42.toNat, c0_i32_24.toNat, c0_i32_25.toNat, c0_i32_26.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x56x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x49x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x256x56x56 : Shape := ⟨4, ![8, 256, 56, 56]⟩
abbrev S256x4 : Shape := ⟨2, ![256, 4]⟩
abbrev S8 : Shape := ⟨1, ![8]⟩
abbrev S_ : Shape := ⟨0, ![]⟩
abbrev S256 : Shape := ⟨1, ![256]⟩
abbrev S1x8 : Shape := ⟨2, ![1, 8]⟩
abbrev S256x1 : Shape := ⟨2, ![256, 1]⟩
abbrev S256x8 : Shape := ⟨2, ![256, 8]⟩
abbrev S56 : Shape := ⟨1, ![56]⟩
abbrev S1x56 : Shape := ⟨2, ![1, 56]⟩
abbrev S256x56 : Shape := ⟨2, ![256, 56]⟩
abbrev S256x56x1 : Shape := ⟨3, ![256, 56, 1]⟩
abbrev S256x1x56 : Shape := ⟨3, ![256, 1, 56]⟩
abbrev S256x56x56 : Shape := ⟨3, ![256, 56, 56]⟩
abbrev S256x1x56x56 : Shape := ⟨4, ![256, 1, 56, 56]⟩
abbrev S49 : Shape := ⟨1, ![49]⟩
abbrev S1x49x1x1 : Shape := ⟨4, ![1, 49, 1, 1]⟩
abbrev S256x49x56x56 : Shape := ⟨4, ![256, 49, 56, 56]⟩
abbrev S256x256x56x56 : Shape := ⟨4, ![256, 256, 56, 56]⟩
abbrev S256x1x49x56x56 : Shape := ⟨5, ![256, 1, 49, 56, 56]⟩
abbrev S256x256x1x56x56 : Shape := ⟨5, ![256, 256, 1, 56, 56]⟩
abbrev S256x256x49x56x56 : Shape := ⟨5, ![256, 256, 49, 56, 56]⟩
abbrev S256x256x49 : Shape := ⟨3, ![256, 256, 49]⟩
abbrev S256x256x7x7 : Shape := ⟨4, ![256, 256, 7, 7]⟩

abbrev nBuf : Space → Nat
  | .hbm => 180
  | .vmem => 0
  | .smem => 0
  | _ => 0

abbrev hbmTy0_0 (i : Nat) : BufTy := match i % 128 with
  | 0 => ⟨S8x256x56x56, .f32⟩
  | 1 => ⟨S256x4, .i32⟩
  | 2 => ⟨S8, .i32⟩
  | 3 => ⟨S_, .i32⟩
  | 4 => ⟨S_, .i32⟩
  | 5 => ⟨S8, .i32⟩
  | 6 => ⟨S256, .i32⟩
  | 7 => ⟨S_, .i32⟩
  | 8 => ⟨S256, .i32⟩
  | 9 => ⟨S256, .i32⟩
  | 10 => ⟨S1x8, .i32⟩
  | 11 => ⟨S256x1, .i32⟩
  | 12 => ⟨S256x8, .i32⟩
  | 13 => ⟨S256x8, .i32⟩
  | 14 => ⟨S256x8, .i1⟩
  | 15 => ⟨S256x8, .i32⟩
  | 16 => ⟨S_, .i32⟩
  | 17 => ⟨S256, .i32⟩
  | 18 => ⟨S_, .i32⟩
  | 19 => ⟨S_, .i32⟩
  | 20 => ⟨S_, .i32⟩
  | 21 => ⟨S256, .i32⟩
  | 22 => ⟨S256, .i32⟩
  | 23 => ⟨S_, .i32⟩
  | 24 => ⟨S256, .i32⟩
  | 25 => ⟨S256, .i32⟩
  | 26 => ⟨S256x1, .i32⟩
  | 27 => ⟨S256, .i32⟩
  | 28 => ⟨S256x1, .i32⟩
  | 29 => ⟨S256x1, .i32⟩
  | 30 => ⟨S256, .i32⟩
  | 31 => ⟨S256x1, .i32⟩
  | 32 => ⟨S256x1, .i32⟩
  | 33 => ⟨S256, .i32⟩
  | 34 => ⟨S256x1, .i32⟩
  | 35 => ⟨S256x1, .i32⟩
  | 36 => ⟨S256, .i32⟩
  | 37 => ⟨S256x1, .i32⟩
  | 38 => ⟨S256x1, .i32⟩
  | 39 => ⟨S_, .i32⟩
  | 40 => ⟨S256x1, .i32⟩
  | 41 => ⟨S256x1, .i32⟩
  | 42 => ⟨S256x1, .i32⟩
  | 43 => ⟨S_, .i32⟩
  | 44 => ⟨S256x1, .i32⟩
  | 45 => ⟨S256x1, .i32⟩
  | 46 => ⟨S56, .i32⟩
  | 47 => ⟨S1x56, .i32⟩
  | 48 => ⟨S256x56, .i32⟩
  | 49 => ⟨S256x56, .i32⟩
  | 50 => ⟨S256x56, .i32⟩
  | 51 => ⟨S56, .i32⟩
  | 52 => ⟨S1x56, .i32⟩
  | 53 => ⟨S256x56, .i32⟩
  | 54 => ⟨S256x56, .i32⟩
  | 55 => ⟨S256x56, .i32⟩
  | 56 => ⟨S_, .i32⟩
  | 57 => ⟨S256x56, .i32⟩
  | 58 => ⟨S256x56, .i32⟩
  | 59 => ⟨S_, .i32⟩
  | 60 => ⟨S256x56, .i32⟩
  | 61 => ⟨S256x56, .i32⟩
  | 62 => ⟨S256x56, .i32⟩
  | 63 => ⟨S256x56, .i32⟩
  | 64 => ⟨S_, .i32⟩
  | 65 => ⟨S256x56, .i32⟩
  | 66 => ⟨S256x56, .i32⟩
  | 67 => ⟨S256x56, .i32⟩
  | 68 => ⟨S256x56, .i32⟩
  | 69 => ⟨S256x56, .i32⟩
  | 70 => ⟨S256x1, .i32⟩
  | 71 => ⟨S256x56, .i32⟩
  | 72 => ⟨S256x56, .i1⟩
  | 73 => ⟨S256x56, .i32⟩
  | 74 => ⟨S256x56, .i32⟩
  | 75 => ⟨S_, .i32⟩
  | 76 => ⟨S256x56, .i32⟩
  | 77 => ⟨S256x56, .i1⟩
  | 78 => ⟨S256x56, .i1⟩
  | 79 => ⟨S_, .i32⟩
  | 80 => ⟨S256x56, .i32⟩
  | 81 => ⟨S256x56, .i32⟩
  | 82 => ⟨S256x56, .i32⟩
  | 83 => ⟨S_, .i32⟩
  | 84 => ⟨S256x56, .i32⟩
  | 85 => ⟨S256x56, .i32⟩
  | 86 => ⟨S_, .i32⟩
  | 87 => ⟨S256x56, .i32⟩
  | 88 => ⟨S256x56, .i32⟩
  | 89 => ⟨S_, .i32⟩
  | 90 => ⟨S256x56, .i32⟩
  | 91 => ⟨S256x56, .i32⟩
  | 92 => ⟨S256x56, .i32⟩
  | 93 => ⟨S256x56, .i32⟩
  | 94 => ⟨S_, .i32⟩
  | 95 => ⟨S256x56, .i32⟩
  | 96 => ⟨S256x56, .i32⟩
  | 97 => ⟨S256x56, .i32⟩
  | 98 => ⟨S256x56, .i32⟩
  | 99 => ⟨S256x56, .i32⟩
  | 100 => ⟨S256x1, .i32⟩
  | 101 => ⟨S256x56, .i32⟩
  | 102 => ⟨S256x56, .i1⟩
  | 103 => ⟨S256x56, .i32⟩
  | 104 => ⟨S256x56, .i32⟩
  | 105 => ⟨S_, .i32⟩
  | 106 => ⟨S256x56, .i32⟩
  | 107 => ⟨S256x56, .i1⟩
  | 108 => ⟨S256x56, .i1⟩
  | 109 => ⟨S_, .i32⟩
  | 110 => ⟨S256x56, .i32⟩
  | 111 => ⟨S256x56, .i32⟩
  | 112 => ⟨S256x56, .i32⟩
  | 113 => ⟨S_, .i32⟩
  | 114 => ⟨S256x56, .i32⟩
  | 115 => ⟨S256x56, .i32⟩
  | 116 => ⟨S_, .i32⟩
  | 117 => ⟨S256x56, .i32⟩
  | 118 => ⟨S256x56, .i1⟩
  | 119 => ⟨S256x1, .i32⟩
  | 120 => ⟨S256x56, .i32⟩
  | 121 => ⟨S256x56, .i1⟩
  | 122 => ⟨S256x56, .i1⟩
  | 123 => ⟨S256x56x1, .i1⟩
  | 124 => ⟨S_, .i32⟩
  | 125 => ⟨S256x56, .i32⟩
  | 126 => ⟨S256x56, .i1⟩
  | 127 => ⟨S256x1, .i32⟩
  | _ => ⟨S8x256x56x56, .f32⟩

abbrev hbmTy0_1 (i : Nat) : BufTy := match i % 128 with
  | 0 => ⟨S256x56, .i32⟩
  | 1 => ⟨S256x56, .i1⟩
  | 2 => ⟨S256x56, .i1⟩
  | 3 => ⟨S256x1x56, .i1⟩
  | 4 => ⟨S256x56x56, .i1⟩
  | 5 => ⟨S256x56x56, .i1⟩
  | 6 => ⟨S256x56x56, .i1⟩
  | 7 => ⟨S256x56x1, .i32⟩
  | 8 => ⟨S_, .i32⟩
  | 9 => ⟨S256x56x1, .i32⟩
  | 10 => ⟨S256x56x1, .i32⟩
  | 11 => ⟨S256x1x56, .i32⟩
  | 12 => ⟨S256x56x56, .i32⟩
  | 13 => ⟨S256x56x56, .i32⟩
  | 14 => ⟨S256x56x56, .i32⟩
  | 15 => ⟨S_, .i32⟩
  | 16 => ⟨S_, .i32⟩
  | 17 => ⟨S256x56x56, .i32⟩
  | 18 => ⟨S256x56x56, .i32⟩
  | 19 => ⟨S256x1x56x56, .i32⟩
  | 20 => ⟨S49, .i32⟩
  | 21 => ⟨S1x49x1x1, .i32⟩
  | 22 => ⟨S256x49x56x56, .i32⟩
  | 23 => ⟨S256x49x56x56, .i32⟩
  | 24 => ⟨S256x49x56x56, .i1⟩
  | 25 => ⟨S_, .i32⟩
  | 26 => ⟨S256, .i32⟩
  | 27 => ⟨S256, .i1⟩
  | 28 => ⟨S_, .i32⟩
  | 29 => ⟨S256, .i32⟩
  | 30 => ⟨S256, .i32⟩
  | 31 => ⟨S256, .i32⟩
  | 32 => ⟨S256x1, .i32⟩
  | 33 => ⟨S256x256x56x56, .f32⟩
  | 34 => ⟨S256x1x49x56x56, .i1⟩
  | 35 => ⟨S256x256x1x56x56, .f32⟩
  | 36 => ⟨S_, .f32⟩
  | 37 => ⟨S_, .f32⟩
  | 38 => ⟨S256x256x49x56x56, .i1⟩
  | 39 => ⟨S256x256x49x56x56, .f32⟩
  | 40 => ⟨S256x256x49x56x56, .f32⟩
  | 41 => ⟨S256x256x49x56x56, .f32⟩
  | 42 => ⟨S_, .f32⟩
  | 43 => ⟨S256x256x49, .f32⟩
  | 44 => ⟨S_, .f32⟩
  | 45 => ⟨S256x256x49, .f32⟩
  | 46 => ⟨S256x256x49, .i1⟩
  | 47 => ⟨S_, .f32⟩
  | 48 => ⟨S_, .f32⟩
  | 49 => ⟨S256x256x49, .f32⟩
  | 50 => ⟨S256x256x49, .f32⟩
  | 51 => ⟨S256x256x7x7, .f32⟩
  | _ => ⟨S8x256x56x56, .f32⟩

abbrev hbmTy (i : Nat) : BufTy := match i / 128 with
  | 0 => hbmTy0_0 i
  | 1 => hbmTy0_1 i
  | _ => ⟨S8x256x56x56, .f32⟩

abbrev bufTy : (tb : Table) → Fin (tcTables nBuf tb) → BufTy
  | .hbm, ⟨i, _⟩ => hbmTy i
  | _, _ => ⟨S8x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_c : Ref sig .tc := ⟨.hbm, 3, rfl⟩
abbrev main_call0_call0_v0 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_c : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_0 : Ref sig .tc := ⟨.hbm, 79, rfl⟩
abbrev main_call2_v11 : Ref sig .tc := ⟨.hbm, 80, rfl⟩
abbrev main_call2_v12 : Ref sig .tc := ⟨.hbm, 81, rfl⟩
abbrev main_v48 : Ref sig .tc := ⟨.hbm, 82, rfl⟩
abbrev main_c_8 : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_v51 : Ref sig .tc := ⟨.hbm, 87, rfl⟩
abbrev main_v52 : Ref sig .tc := ⟨.hbm, 88, rfl⟩
abbrev main_c_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_11 : Ref sig .tc := ⟨.hbm, 94, rfl⟩
abbrev main_v57 : Ref sig .tc := ⟨.hbm, 95, rfl⟩
abbrev main_v58 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_v7 : Ref sig .tc := ⟨.hbm, 104, rfl⟩
abbrev main_call3_c : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_c_0 : Ref sig .tc := ⟨.hbm, 109, rfl⟩
abbrev main_call3_v11 : Ref sig .tc := ⟨.hbm, 110, rfl⟩
abbrev main_call3_v12 : Ref sig .tc := ⟨.hbm, 111, rfl⟩
abbrev main_v59 : Ref sig .tc := ⟨.hbm, 112, rfl⟩
abbrev main_c_12 : Ref sig .tc := ⟨.hbm, 113, rfl⟩
abbrev main_v60 : Ref sig .tc := ⟨.hbm, 114, rfl⟩
abbrev main_v61 : Ref sig .tc := ⟨.hbm, 115, rfl⟩
abbrev main_c_13 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_c_14 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_c_15 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_c_16 : Ref sig .tc := ⟨.hbm, 143, rfl⟩
abbrev main_call4_v0 : Ref sig .tc := ⟨.hbm, 144, rfl⟩
abbrev main_call4_v1 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_c_17 : Ref sig .tc := ⟨.hbm, 153, rfl⟩
abbrev main_v93 : Ref sig .tc := ⟨.hbm, 154, rfl⟩
abbrev main_v94 : Ref sig .tc := ⟨.hbm, 155, rfl⟩
abbrev main_c_18 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_call5_v3 : Ref sig .tc := ⟨.hbm, 168, rfl⟩
abbrev main_v102 : Ref sig .tc := ⟨.hbm, 169, rfl⟩
abbrev main_cst_19 : Ref sig .tc := ⟨.hbm, 170, rfl⟩
abbrev main_v103 : Ref sig .tc := ⟨.hbm, 171, rfl⟩
abbrev main_cst_20 : Ref sig .tc := ⟨.hbm, 172, rfl⟩
abbrev main_v104 : Ref sig .tc := ⟨.hbm, 173, rfl⟩
abbrev main_v105 : Ref sig .tc := ⟨.hbm, 174, rfl⟩
abbrev main_cst_21 : Ref sig .tc := ⟨.hbm, 175, rfl⟩
abbrev main_call6_v0 : Ref sig .tc := ⟨.hbm, 176, rfl⟩
abbrev main_call6_v1 : Ref sig .tc := ⟨.hbm, 177, rfl⟩
abbrev main_v106 : Ref sig .tc := ⟨.hbm, 178, rfl⟩
abbrev main_v107 : Ref sig .tc := ⟨.hbm, 179, rfl⟩

abbrev nD : Nat := 1
abbrev τ : Topo := Topo.v7x

variable {F : FTy → Type} [FloatOps F]
-- ==== Proof.Ideal.Setup.lean ====
/- The launch of the idealized ROI-pool kernel: what @main's host lines leave before the region, the two prefetched
   tables, the blocks its windows stage, and the facts of the host lines after the region. Window 0 and window 1 read one
   array (the transposed feature map), at the image of the step's first and second region; both index maps read the tables. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging buffer of each window at point `t`. -/
abbrev stage0 (a : (pcfg0 (F := F)).Adm) (t : Fin (cfg0 a).N) : Memref sig .tc .vmem S1x56x56x256 .f32 := spec0_0.stage ((cfg0 a).slots t 0)
abbrev stage1 (a : (pcfg0 (F := F)).Adm) (t : Fin (cfg0 a).N) : Memref sig .tc .vmem S1x56x56x256 .f32 := spec0_1.stage ((cfg0 a).slots t 1)
abbrev stage2 (a : (pcfg0 (F := F)).Adm) (t : Fin (cfg0 a).N) : Memref sig .tc .vmem S2x49x256 .f32 := spec0_2.stage ((cfg0 a).slots t 2)

/-- The kernel body as the pipeline calls it at point `t`. -/
abbrev bodyAt (a : (pcfg0 (F := F)).Adm) (t : Fin (cfg0 a).N) : Prog (TpuEff nD τ sig (Elt F) Λ₀ .tc) PUnit :=
  cc0_roi_pool (grid0.coords t) (Memref.whole main_v0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

/-- The output window is written back at every point: its block index is the point's coordinate. -/
theorem flush2 (a : (pcfg0 (F := F)).Adm) : ∀ t : Fin (cfg0 a).N, ((cfg0 a).win 2).flush t = true :=
  (fun t => (Pipeline.Window.flushOf_reads cc0_transform_2 reads0_2 hreads0_2 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)

variable (m : (ℓ : Loc nD τ sig) → Buf (Elt F) ℓ) (ρ : Dev nD → PrngReg)

/-! ## @main around the region -/

/-- Core `c`'s TensorCore buffer contents when the region is entered, as a valuation: after the host operations before
    the region (`hostOps0`, `hostOps0_1`). -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tabCs : Memref sig .tc .smem S8 .i32 := Memref.whole main_v0
abbrev htabCs : tabCs.IsWhole := Memref.isWhole_whole _
abbrev tabRoi : Memref sig .tc .smem S256x4 .i32 := Memref.whole main_arg1
abbrev htabRoi : tabRoi.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves the region hands the body (Lib/Pipeline/Frame.lean `ΦT`), table by table: what the body
    obligation hands the run and takes back. -/
theorem PhiT_eq (c : Dev nD) : (Pipeline.ΦT pre0 (tbl m) c : sProp 𝕄) = iprop(tbPt c tabCs (tbl m 0) ∗ tbPt c tabRoi (tbl m 1)) := by
  unfold Pipeline.ΦT Pipeline.prefHeld
  rw [show (Finset.univ : Finset (Fin 2)) = insert (0 : Fin 2) {(1 : Fin 2)} from by decide,
    bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before_in0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before_in1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The words of the region table the body reads, at the offsets `off`. -/
abbrev word {c : Dev nD} (x : TbBuf (F := F) c tabRoi) (off : Fin 2 → ℕ) (inb : ∀ a, off a + S1x1.size a ≤ S256x4.size a) : Elt F .i32 :=
  tabRoi.view.readAt (Elt F) (Rect.unit (s := S256x4) off S1x1.size inb).toLoadRect x (Shape.Idx.first (numel1_S1x1.symm ▸ Nat.one_pos))

/-- The side conditions the body assumes of the eight words it reads at coordinates `i`: the aligned column offsets are
    multiples of 8, and every slab lies inside its buffer. -/
structure Words {c : Dev nD} (i : grid0.Coords) (x : TbBuf (F := F) c tabRoi) : Prop where
  hw1 : k0_chk1 (word x (k0_off1 i) (k0_off1_inb i))
  hw3 : k0_chk3 (word x (k0_off1 i) (k0_off1_inb i)) (word x (k0_off3 i) (k0_off3_inb i))
  hw2 : k0_chk2 (word x (k0_off1 i) (k0_off1_inb i)) (word x (k0_off2 i) (k0_off2_inb i)) (word x (k0_off4 i) (k0_off4_inb i))
  hw4 : k0_chk4 (word x (k0_off7 i) (k0_off7_inb i))
  hw6 : k0_chk6 (word x (k0_off7 i) (k0_off7_inb i)) (word x (k0_off9 i) (k0_off9_inb i))
  hw5 : k0_chk5 (word x (k0_off7 i) (k0_off7_inb i)) (word x (k0_off8 i) (k0_off8_inb i)) (word x (k0_off10 i) (k0_off10_inb i))

/-- The scratch buffer, as the memref the body is handed. -/
abbrev scratch : Memref sig .tc .vmem S2x44x8x256 .f32 := Memref.whole cc0_scratch0

/-- The region's scoped rest: the scratch at some contents, and the generator register. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

end Cert.KernelIdeal.Roi

end
-- ==== Proof.Words.lean ====
/- The integer arithmetic of the ROI-pool kernel, over 32-bit words: the bin edges (n * d) // 7, the column offset rounded
   down to a multiple of 8, the clipped first row of a slab, and what these are on words in the drawn range. -/
module

public import Idealize.ShloMosaic.PureOps
public import Idealize.ShloMosaic.Lib.WordCmp
public import Mathlib.Order.Interval.Finset.Nat
public import Mathlib.Data.Finset.Lattice.Fold

@[expose] public section

set_option maxRecDepth 16384

namespace Cert.Roi

open Idealize.ShloMosaic

/-- Python's floor division of `a` by `b`, as the kernels spell it: the quotient toward zero, less one where the signs
    differ and the division is not exact. -/
def floorDiv (a b : BitVec 32) : BitVec 32 :=
  Scalar.select
    (Scalar.andi
      (Scalar.cmpi .ne
        (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- A region's side length, at least 1. -/
def span (a b : BitVec 32) : BitVec 32 := Scalar.maxsi (Scalar.subi b a) 1#32
/-- Bin edge `c` of a side of length `d`. -/
def edge (c d : BitVec 32) : BitVec 32 := floorDiv (Scalar.muli c d) 7#32
/-- The width of the bin between edges `c` and `c'`. -/
def width (c c' d : BitVec 32) : BitVec 32 := Scalar.subi (edge c' d) (edge c d)
/-- The first column of the slab: `x` rounded down to a multiple of 8, at most 16. -/
def align (x : BitVec 32) : BitVec 32 := Scalar.minsi (Scalar.muli (floorDiv x 8#32) 8#32) 16#32
/-- The first row of the slab of the bin at edge `c`. -/
def top (y c d : BitVec 32) : BitVec 32 := Scalar.minsi (Scalar.addi y (edge c d)) 52#32
/-- How far the bin starts below its slab's first row. -/
def skip (y c d : BitVec 32) : BitVec 32 := Scalar.subi (Scalar.addi y (edge c d)) (top y c d)
/-- The first column of the bin at edge `c`, within the scratch. -/
def left (x c d : BitVec 32) : BitVec 32 := Scalar.addi (Scalar.subi x (align x)) (edge c d)

/-- A region of interest, its corners natural numbers. -/
structure Box where
  x0 : ℕ
  y0 : ℕ
  x1 : ℕ
  y1 : ℕ

/-- The range the regions are drawn from: inside the 56 by 56 map, each side 8 to 27 pixels. -/
structure Box.Ok (b : Box) : Prop where
  x_lo : b.x0 + 8 ≤ b.x1
  x_hi : b.x1 ≤ b.x0 + 27
  x_in : b.x1 ≤ 56
  y_lo : b.y0 + 8 ≤ b.y1
  y_hi : b.y1 ≤ b.y0 + 27
  y_in : b.y1 ≤ 56

theorem span_eq : ∀ a d : ℕ, a ≤ 48 → 1 ≤ d → d ≤ 27 → span (BitVec.ofNat 32 a) (BitVec.ofNat 32 (a + d)) = BitVec.ofNat 32 d := by
  have h : ∀ a : Fin 49, ∀ d : Fin 28, 1 ≤ d.val → span (BitVec.ofNat 32 a.val) (BitVec.ofNat 32 (a.val + d.val)) = BitVec.ofNat 32 d.val := by
    decide +kernel
  intro a d ha h1 hd
  exact h ⟨a, by omega⟩ ⟨d, by omega⟩ h1

theorem edge_eq : ∀ n d : ℕ, n ≤ 7 → d ≤ 27 → edge (BitVec.ofNat 32 n) (BitVec.ofNat 32 d) = BitVec.ofNat 32 (n * d / 7) := by
  have h : ∀ n : Fin 8, ∀ d : Fin 28, edge (BitVec.ofNat 32 n.val) (BitVec.ofNat 32 d.val) = BitVec.ofNat 32 (n.val * d.val / 7) := by
    decide +kernel
  intro n d hn hd
  exact h ⟨n, by omega⟩ ⟨d, by omega⟩

/-- Bin edges increase by 1 to 4 along a drawn side, and stay within it. -/
theorem edge_step : ∀ n d : ℕ, n < 7 → 8 ≤ d → d ≤ 27 →
    n * d / 7 < (n + 1) * d / 7 ∧ (n + 1) * d / 7 ≤ n * d / 7 + 4 ∧ (n + 1) * d / 7 ≤ d := by
  have h : ∀ n : Fin 7, ∀ d : Fin 28, 8 ≤ d.val →
      n.val * d.val / 7 < (n.val + 1) * d.val / 7 ∧ (n.val + 1) * d.val / 7 ≤ n.val * d.val / 7 + 4 ∧ (n.val + 1) * d.val / 7 ≤ d.val := by
    decide +kernel
  intro n d hn h8 hd
  exact h ⟨n, hn⟩ ⟨d, by omega⟩ h8

theorem width_eq (n d : ℕ) (hn : n < 7) (hd : d ≤ 27) :
    width (BitVec.ofNat 32 n) (BitVec.ofNat 32 (n + 1)) (BitVec.ofNat 32 d) = BitVec.ofNat 32 ((n + 1) * d / 7 - n * d / 7) := by
  have h : ∀ n : Fin 7, ∀ d : Fin 28,
      width (BitVec.ofNat 32 n.val) (BitVec.ofNat 32 (n.val + 1)) (BitVec.ofNat 32 d.val) = BitVec.ofNat 32 ((n.val + 1) * d.val / 7 - n.val * d.val / 7) := by
    decide +kernel
  exact h ⟨n, hn⟩ ⟨d, by omega⟩

theorem align_eq (x : ℕ) (hx : x ≤ 48) : align (BitVec.ofNat 32 x) = BitVec.ofNat 32 (min (x / 8 * 8) 16) := by
  have h : ∀ x : Fin 49, align (BitVec.ofNat 32 x.val) = BitVec.ofNat 32 (min (x.val / 8 * 8) 16) := by decide +kernel
  exact h ⟨x, by omega⟩

theorem top_aux : ∀ y : Fin 49, ∀ q : Fin 28,
    Scalar.minsi (Scalar.addi (BitVec.ofNat 32 y.val) (BitVec.ofNat 32 q.val)) 52#32 = BitVec.ofNat 32 (min (y.val + q.val) 52)
    ∧ Scalar.subi (Scalar.addi (BitVec.ofNat 32 y.val) (BitVec.ofNat 32 q.val)) (BitVec.ofNat 32 (min (y.val + q.val) 52))
      = BitVec.ofNat 32 (y.val + q.val - min (y.val + q.val) 52)
    ∧ Scalar.addi (Scalar.subi (BitVec.ofNat 32 y.val) (BitVec.ofNat 32 (min (y.val / 8 * 8) 16))) (BitVec.ofNat 32 q.val)
      = BitVec.ofNat 32 (y.val - min (y.val / 8 * 8) 16 + q.val) := by
  decide +kernel

theorem edge_le (n d : ℕ) (hn : n ≤ 7) : n * d / 7 ≤ d :=
  Nat.div_le_of_le_mul (Nat.mul_le_mul_right d hn)

theorem top_eq (y n d : ℕ) (hy : y ≤ 48) (hn : n ≤ 7) (hd : d ≤ 27) :
    top (BitVec.ofNat 32 y) (BitVec.ofNat 32 n) (BitVec.ofNat 32 d) = BitVec.ofNat 32 (min (y + n * d / 7) 52) := by
  have hq := edge_le n d hn
  unfold top
  rw [edge_eq n d hn hd]
  exact (top_aux ⟨y, by omega⟩ ⟨n * d / 7, by omega⟩).1

theorem skip_eq (y n d : ℕ) (hy : y ≤ 48) (hn : n ≤ 7) (hd : d ≤ 27) :
    skip (BitVec.ofNat 32 y) (BitVec.ofNat 32 n) (BitVec.ofNat 32 d)
      = BitVec.ofNat 32 (y + n * d / 7 - min (y + n * d / 7) 52) := by
  have hq := edge_le n d hn
  unfold skip
  rw [top_eq y n d hy hn hd, edge_eq n d hn hd]
  exact (top_aux ⟨y, by omega⟩ ⟨n * d / 7, by omega⟩).2.1

theorem left_eq (x n d : ℕ) (hx : x ≤ 48) (hn : n ≤ 7) (hd : d ≤ 27) :
    left (BitVec.ofNat 32 x) (BitVec.ofNat 32 n) (BitVec.ofNat 32 d)
      = BitVec.ofNat 32 (x - min (x / 8 * 8) 16 + n * d / 7) := by
  have hq := edge_le n d hn
  unfold left
  rw [align_eq x hx, edge_eq n d hn hd]
  exact (top_aux ⟨x, by omega⟩ ⟨n * d / 7, by omega⟩).2.2

/-- The row mask `skip ≤ k < skip + width`, bit by bit. -/
theorem rowMask (d w k : ℕ) (hd : d ≤ 4) (hw : w ≤ 4) (hk : k < 4) :
    Scalar.andi (Scalar.cmpi .sle (BitVec.ofNat 32 d) (BitVec.ofNat 32 k))
        (Scalar.cmpi .sgt (Scalar.addi (BitVec.ofNat 32 d) (BitVec.ofNat 32 w)) (BitVec.ofNat 32 k))
      = if d ≤ k ∧ k < d + w then 1#1 else 0#1 := by
  have h : ∀ d w : Fin 5, ∀ k : Fin 4,
      Scalar.andi (Scalar.cmpi .sle (BitVec.ofNat 32 d.val) (BitVec.ofNat 32 k.val))
        (Scalar.cmpi .sgt (Scalar.addi (BitVec.ofNat 32 d.val) (BitVec.ofNat 32 w.val)) (BitVec.ofNat 32 k.val))
      = if d.val ≤ k.val ∧ k.val < d.val + w.val then 1#1 else 0#1 := by decide +kernel
  exact h ⟨d, by omega⟩ ⟨w, by omega⟩ ⟨k, hk⟩

/-- The column mask `k < width`, bit by bit. -/
theorem colMask (w k : ℕ) (hw : w ≤ 4) (hk : k < 4) :
    Scalar.cmpi .sgt (BitVec.ofNat 32 w) (BitVec.ofNat 32 k) = if k < w then 1#1 else 0#1 := by
  have h : ∀ w : Fin 5, ∀ k : Fin 4,
      Scalar.cmpi .sgt (BitVec.ofNat 32 w.val) (BitVec.ofNat 32 k.val) = if k.val < w.val then 1#1 else 0#1 := by decide +kernel
  exact h ⟨w, by omega⟩ ⟨k, hk⟩

end Cert.Roi
-- ==== Proof.Ideal.Pay.lean ====
/- What the idealized kernel's stores hold, entry by entry: a row store is the maximum of a bin's rows at one column, a
   column store the maximum of those over a bin's columns. -/
module

public import proofs.«01_k».proof.Proof.Ideal.Setup
public import proofs.«01_k».proof.Proof.Words
public import Idealize.ShloMosaic.Lib.Pipeline.ReadBack
public import Idealize.ShloMosaic.Lib.WritesUnit

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic

/-- Pixel `(h, w)` of channel `ch` of one image, `⊥` outside it. -/
def px (x : Vec Ideal S1x56x56x256 .f32) (h w : ℕ) (ch : Fin 256) : EReal :=
  if hh : h < 56 ∧ w < 56 then x (ix4 0 ⟨h, hh.1⟩ ⟨w, hh.2⟩ ch) else ⊥

/-- The maximum over the rows of row bin `n` at column `w`. -/
def rowSup (x : Vec Ideal S1x56x56x256 .f32) (b : Box) (n w : ℕ) (ch : Fin 256) : EReal :=
  (Finset.Ico (b.y0 + n * (b.y1 - b.y0) / 7) (b.y0 + (n + 1) * (b.y1 - b.y0) / 7)).sup fun h => px x h w ch

/-- The maximum over bin `(n, j)`: row bin `n`, column bin `j`. -/
def binSup (x : Vec Ideal S1x56x56x256 .f32) (b : Box) (n j : ℕ) (ch : Fin 256) : EReal :=
  (Finset.Ico (b.x0 + j * (b.x1 - b.x0) / 7) (b.x0 + (j + 1) * (b.x1 - b.x0) / 7)).sup fun w => rowSup x b n w ch

theorem negInf : Ideal.ofBits FTy.f32 0xFF800000#32 = (⊥ : EReal) := by
  simp [Ideal.ofBits, Ideal.ieee]

theorem select_ite (c : Prop) [Decidable c] (a : EReal) :
    Scalar.select (if c then 1#1 else 0#1) a (⊥ : EReal) = if c then a else ⊥ := by
  by_cases h : c <;> simp [h, Scalar.select]

/-- Four masked terms, the mask an interval of `[0, 4)`: the supremum over the interval. -/
theorem max4 (d e lo : ℕ) (hde : e ≤ 4) (f : ℕ → EReal) (g : ℕ → EReal) (h : ∀ k < 4, d ≤ k → k < e → f k = g (lo + k)) :
    max (max (max (if d ≤ 0 ∧ 0 < e then f 0 else ⊥) (if d ≤ 1 ∧ 1 < e then f 1 else ⊥)) (if d ≤ 2 ∧ 2 < e then f 2 else ⊥))
      (if d ≤ 3 ∧ 3 < e then f 3 else ⊥) = (Finset.Ico (lo + d) (lo + e)).sup g := by
  refine eq_of_forall_ge_iff fun u => ?_
  have hite : ∀ k, ((if d ≤ k ∧ k < e then f k else ⊥) ≤ u) ↔ (d ≤ k ∧ k < e → f k ≤ u) := fun k => by
    by_cases hc : d ≤ k ∧ k < e <;> simp [hc]
  rw [max_le_iff, max_le_iff, max_le_iff, hite, hite, hite, hite, Finset.sup_le_iff]
  constructor
  · rintro ⟨⟨⟨h0, h1⟩, h2⟩, h3⟩ z hz
    obtain ⟨hz1, hz2⟩ := Finset.mem_Ico.mp hz
    obtain ⟨k, rfl⟩ : ∃ k, z = lo + k := ⟨z - lo, by omega⟩
    rw [← h k (by omega) (by omega) (by omega)]
    have hk : k < 4 := by omega
    interval_cases k
    · exact h0 ⟨by omega, by omega⟩
    · exact h1 ⟨by omega, by omega⟩
    · exact h2 ⟨by omega, by omega⟩
    · exact h3 ⟨by omega, by omega⟩
  · intro hs
    have key : ∀ k < 4, d ≤ k ∧ k < e → f k ≤ u := fun k hk hc => by
      rw [h k hk hc.1 hc.2]
      exact hs _ (Finset.mem_Ico.mpr ⟨by omega, by omega⟩)
    exact ⟨⟨⟨key 0 (by omega), key 1 (by omega)⟩, key 2 (by omega)⟩, key 3 (by omega)⟩

variable {b : Box}

/-- A row store's payload: the slab's rows that the mask keeps, their maximum at each column. -/
theorem row_value (hb : b.Ok) (x : Vec Ideal S1x56x56x256 .f32) (n w : ℕ) (hn : n < 7) (s : Vec Ideal S1x4x40x256 .f32) (p : Fin 40) (ch : Fin 256)
    (hs : ∀ k : Fin 4, s (ix4 0 k p ch) = px x (min (b.y0 + n * (b.y1 - b.y0) / 7) 52 + k.val) w ch) :
    k0_pay3 (F := Ideal) (width (BitVec.ofNat 32 n) (BitVec.ofNat 32 (n + 1)) (span (BitVec.ofNat 32 b.y0) (BitVec.ofNat 32 b.y1)))
      (skip (BitVec.ofNat 32 b.y0) (BitVec.ofNat 32 n) (span (BitVec.ofNat 32 b.y0) (BitVec.ofNat 32 b.y1))) (k0_pay2 s) (ix4 0 p 0 ch)
      = rowSup x b n w ch := by
  obtain ⟨hx1, hx2, hx3, hy1, hy2, hy3⟩ := hb
  have hstep := edge_step n (b.y1 - b.y0) hn (by omega) (by omega)
  have hsp : span (BitVec.ofNat 32 b.y0) (BitVec.ofNat 32 b.y1) = BitVec.ofNat 32 (b.y1 - b.y0) := by
    have := span_eq b.y0 (b.y1 - b.y0) (by omega) (by omega) (by omega)
    rwa [show b.y0 + (b.y1 - b.y0) = b.y1 by omega] at this
  rw [hsp, width_eq n _ hn (by omega), skip_eq _ n _ (by omega) (by omega) (by omega)]
  unfold rowSup
  generalize n * (b.y1 - b.y0) / 7 = q at *
  generalize (n + 1) * (b.y1 - b.y0) / 7 = q' at *
  generalize hd : b.y0 + q - min (b.y0 + q) 52 = d
  pointwise [k0_pay3, k0_pay2]
  have hd4 : d ≤ 4 := by omega
  have hm := fun k hk => rowMask d (q' - q) k hd4 (by omega) hk
  have h0 := hs 0; have h1 := hs 1; have h2 := hs 2; have h3 := hs 3
  rw [hm 0 (by omega), hm 1 (by omega), hm 2 (by omega), hm 3 (by omega), negInf, select_ite, select_ite, select_ite, select_ite, h0, h1, h2, h3]
  have := max4 d (d + (q' - q)) (min (b.y0 + q) 52) (by omega) (fun k => px x (min (b.y0 + q) 52 + k) w ch) (fun h => px x h w ch) (fun k _ _ _ => rfl)
  rw [show min (b.y0 + q) 52 + d = b.y0 + q by omega, show min (b.y0 + q) 52 + (d + (q' - q)) = b.y0 + q' by omega] at this
  exact this

/-- A column store's payload: the maximum of the scratch rows that the mask keeps. -/
theorem col_value (hb : b.Ok) (x : Vec Ideal S1x56x56x256 .f32) (j : ℕ) (hj : j < 7) (s : Vec Ideal S1x4x8x256 .f32) (r : Fin 7) (ch : Fin 256)
    (hs : ∀ k : Fin 4, k.val < (j + 1) * (b.x1 - b.x0) / 7 - j * (b.x1 - b.x0) / 7 →
      s (ix4 0 k ⟨r.val, by omega⟩ ch) = rowSup x b r.val (b.x0 + j * (b.x1 - b.x0) / 7 + k.val) ch) :
    k0_pay1 (F := Ideal) (width (BitVec.ofNat 32 j) (BitVec.ofNat 32 (j + 1)) (span (BitVec.ofNat 32 b.x0) (BitVec.ofNat 32 b.x1))) s (ix3 0 r ch)
      = binSup x b r.val j ch := by
  obtain ⟨hx1, hx2, hx3, hy1, hy2, hy3⟩ := hb
  have hstep := edge_step j (b.x1 - b.x0) hj (by omega) (by omega)
  have hsp : span (BitVec.ofNat 32 b.x0) (BitVec.ofNat 32 b.x1) = BitVec.ofNat 32 (b.x1 - b.x0) := by
    have := span_eq b.x0 (b.x1 - b.x0) (by omega) (by omega) (by omega)
    rwa [show b.x0 + (b.x1 - b.x0) = b.x1 by omega] at this
  rw [hsp, width_eq j _ hj (by omega)]
  unfold binSup
  generalize j * (b.x1 - b.x0) / 7 = q at *
  generalize (j + 1) * (b.x1 - b.x0) / 7 = q' at *
  pointwise [k0_pay1]
  have hm := fun k hk => colMask (q' - q) k (by omega) hk
  rw [hm 0 (by omega), hm 1 (by omega), hm 2 (by omega), hm 3 (by omega), negInf, select_ite, select_ite, select_ite, select_ite]
  have := max4 0 (q' - q) (b.x0 + q) (by omega) (fun k => if hk : k < 4 then s (ix4 0 ⟨k, hk⟩ ⟨r.val, by omega⟩ ch) else ⊥) (fun w => rowSup x b r.val w ch)
    (fun k hk _ hk' => by simp only [dif_pos hk]; exact hs ⟨k, hk⟩ hk')
  rw [show b.x0 + q + 0 = b.x0 + q by omega, show b.x0 + q + (q' - q) = b.x0 + q' by omega] at this
  rw [← this]
  simp

/-- The first column of a region's slab. -/
def col0 (b : Box) : ℕ := min (b.x0 / 8 * 8) 16

/-- The words of a region, as the kernel reads them. -/
structure Read (b : Box) (v3 v5 v7 v9 : BitVec 32) : Prop where
  h3 : v3 = BitVec.ofNat 32 b.x0
  h5 : v5 = BitVec.ofNat 32 b.y0
  h7 : v7 = BitVec.ofNat 32 b.x1
  h9 : v9 = BitVec.ofNat 32 b.y1

theorem toNat_small (n : ℕ) (h : n ≤ 100) : (BitVec.ofNat 32 n).toNat = n := by
  rw [BitVec.toNat_ofNat]; omega

theorem span_x (hb : b.Ok) : span (BitVec.ofNat 32 b.x0) (BitVec.ofNat 32 b.x1) = BitVec.ofNat 32 (b.x1 - b.x0) := by
  obtain ⟨hx1, hx2, hx3, hy1, hy2, hy3⟩ := hb
  have := span_eq b.x0 (b.x1 - b.x0) (by omega) (by omega) (by omega)
  rwa [show b.x0 + (b.x1 - b.x0) = b.x1 by omega] at this

theorem span_y (hb : b.Ok) : span (BitVec.ofNat 32 b.y0) (BitVec.ofNat 32 b.y1) = BitVec.ofNat 32 (b.y1 - b.y0) := by
  obtain ⟨hx1, hx2, hx3, hy1, hy2, hy3⟩ := hb
  have := span_eq b.y0 (b.y1 - b.y0) (by omega) (by omega) (by omega)
  rwa [show b.y0 + (b.y1 - b.y0) = b.y1 by omega] at this

variable {v3 v5 v7 v9 : BitVec 32}

/-- Where the slab of row bin `n` starts. -/
theorem off_row (hb : b.Ok) (hv : Read b v3 v5 v7 v9) (n : ℕ) (hn : n < 7) :
    k0_off5 v3 v5 v9 (BitVec.ofNat 32 n) = ![0, min (b.y0 + n * (b.y1 - b.y0) / 7) 52, col0 b, 0] := by
  obtain ⟨rfl, rfl, rfl, rfl⟩ := hv
  have e : k0_off5 (BitVec.ofNat 32 b.x0) (BitVec.ofNat 32 b.y0) (BitVec.ofNat 32 b.y1) (BitVec.ofNat 32 n)
      = ![0, (top (BitVec.ofNat 32 b.y0) (BitVec.ofNat 32 n) (span (BitVec.ofNat 32 b.y0) (BitVec.ofNat 32 b.y1))).toNat, (align (BitVec.ofNat 32 b.x0)).toNat, 0] := rfl
  rw [e, span_y hb]
  obtain ⟨hx1, hx2, hx3, hy1, hy2, hy3⟩ := hb
  rw [top_eq _ n _ (by omega) (by omega) (by omega), align_eq _ (by omega), toNat_small _ (by omega), toNat_small _ (by omega)]
  rfl

/-- Where the slab of column bin `j` starts in the scratch. -/
theorem off_col (hb : b.Ok) (hv : Read b v3 v5 v7 v9) (j : ℕ) (hj : j < 7) :
    k0_off6 v3 v7 (BitVec.ofNat 32 j) = ![0, b.x0 - col0 b + j * (b.x1 - b.x0) / 7, 0, 0]
    ∧ k0_off12 v3 v7 (BitVec.ofNat 32 j) = ![1, b.x0 - col0 b + j * (b.x1 - b.x0) / 7, 0, 0] := by
  obtain ⟨rfl, rfl, rfl, rfl⟩ := hv
  have e : k0_off6 (BitVec.ofNat 32 b.x0) (BitVec.ofNat 32 b.x1) (BitVec.ofNat 32 j)
      = ![0, (left (BitVec.ofNat 32 b.x0) (BitVec.ofNat 32 j) (span (BitVec.ofNat 32 b.x0) (BitVec.ofNat 32 b.x1))).toNat, 0, 0] := rfl
  have e' : k0_off12 (BitVec.ofNat 32 b.x0) (BitVec.ofNat 32 b.x1) (BitVec.ofNat 32 j)
      = ![1, (left (BitVec.ofNat 32 b.x0) (BitVec.ofNat 32 j) (span (BitVec.ofNat 32 b.x0) (BitVec.ofNat 32 b.x1))).toNat, 0, 0] := rfl
  rw [e, e', span_x hb]
  obtain ⟨hx1, hx2, hx3, hy1, hy2, hy3⟩ := hb
  have hq := edge_le j (b.x1 - b.x0) (by omega)
  rw [left_eq _ j _ (by omega) (by omega) (by omega), toNat_small _ (by omega)]
  exact ⟨rfl, rfl⟩

theorem col0_le (hb : b.Ok) : col0 b ≤ b.x0 ∧ col0 b ≤ 16 ∧ b.x1 ≤ col0 b + 40 := by
  obtain ⟨hx1, hx2, hx3, hy1, hy2, hy3⟩ := hb
  unfold col0
  omega

/-- The row store of bin `n` holds the row maxima at the scratch places it is stored to. -/
theorem row_piece {sp : Space} {v : View sig .tc sp S1x56x56x256 .f32} {f : v.ty.Contents (Elt Ideal)} (hb : b.Ok) (hv : Read b v3 v5 v7 v9)
    (x : Vec Ideal S1x56x56x256 .f32) (hf : v.read (Elt Ideal) f = x)
    (G : S2x44x8x256.Idx → EReal) (g n : ℕ) (hn : n < 7) (inb : ∀ a, (![g, 0, n, 0] : Fin 4 → ℕ) a + S1x40x1x256.size a ≤ S2x44x8x256.size a)
    (hG : ∀ z : S2x44x8x256.Idx, (z 0).val = g → G z = rowSup x b (z 2).val (col0 b + (z 1).val) (z 3))
    (inb' : ∀ a, k0_off5 v3 v5 v9 (BitVec.ofNat 32 n) a + S1x4x40x256.size a ≤ S1x56x56x256.size a) (y : S1x40x1x256.Idx) :
    k0_pay3 (F := Ideal) (width (BitVec.ofNat 32 n) (BitVec.ofNat 32 (n + 1)) (span v5 v9)) (skip v5 (BitVec.ofNat 32 n) (span v5 v9))
      (k0_pay2 (v.readAt (Elt Ideal) (Rect.unit (s := S1x56x56x256) (k0_off5 v3 v5 v9 (BitVec.ofNat 32 n)) S1x4x40x256.size inb').toLoadRect f)) y
      = G ((Rect.unit (s := S2x44x8x256) ![g, 0, n, 0] S1x40x1x256.size inb).emb y) := by
  have hoff := off_row hb hv n hn
  obtain ⟨rfl, rfl, rfl, rfl⟩ := hv
  have hc := col0_le hb
  have hy1 : (y 1).val < 40 := (y 1).isLt
  have hy2 : (y 2).val < 1 := (y 2).isLt
  have hy0 : (y 0).val < 1 := (y 0).isLt
  have hemb : ∀ a : Fin 4, (((Rect.unit (s := S2x44x8x256) ![g, 0, n, 0] S1x40x1x256.size inb).emb y) a).val = (![g, 0, n, 0] : Fin 4 → ℕ) a + (y a).val := fun a => by
    show _ + 1 * _ = _
    rw [Nat.one_mul]; rfl
  have h0 := hemb 0; have h1 := hemb 1; have h2 := hemb 2; have h3 := hemb 3
  have hy : y = ix4 0 (y 1) 0 (y 3) := by blk_ext []
  rw [hG _ (by rw [h0]; show g + _ = g; omega)]
  conv_lhs => rw [hy]
  have e2 : (((Rect.unit (s := S2x44x8x256) ![g, 0, n, 0] S1x40x1x256.size inb).emb y) 2).val = n := by rw [h2]; show n + _ = n; omega
  have e1 : (((Rect.unit (s := S2x44x8x256) ![g, 0, n, 0] S1x40x1x256.size inb).emb y) 1).val = (y 1).val := by rw [h1]; show 0 + _ = _; omega
  have e3 : ((Rect.unit (s := S2x44x8x256) ![g, 0, n, 0] S1x40x1x256.size inb).emb y) 3 = y 3 := Fin.ext (by rw [h3]; show 0 + _ = _; omega)
  rw [e1, e2, e3]
  refine row_value hb x n (col0 b + (y 1).val) hn _ (y 1) (y 3) fun k => ?_
  rw [View.readAt_eq_ld, hf, View.ld_apply]
  obtain ⟨hx1, hx2, hx3, hy1', hy2', hy3'⟩ := hb
  have hk : k.val < 4 := k.isLt
  unfold px
  rw [dif_pos ⟨by omega, by omega⟩]
  congr 1
  funext a
  apply Fin.ext
  refine (congrArg (· + 1 * _) (congrFun hoff a)).trans ?_
  fin_cases a
  · rfl
  · show _ + 1 * k.val = _ + k.val; rw [Nat.one_mul]; rfl
  · show _ + 1 * (y 1).val = _ + (y 1).val; rw [Nat.one_mul]; rfl
  · show 0 + 1 * (y 3).val = (y 3).val; omega

/-- The column store of bin `j`, over a scratch whose rows the row stores `L` filled, holds the bin maxima at the output
    places it is stored to. -/
theorem col_piece {sp : Space} {v : View sig .tc sp S2x44x8x256 .f32} {f : v.ty.Contents (Elt Ideal)} (hb : b.Ok)
    (h3 : v3 = BitVec.ofNat 32 b.x0) (h7 : v7 = BitVec.ofNat 32 b.x1)
    (x : Vec Ideal S1x56x56x256 .f32) (G : S2x44x8x256.Idx → EReal) (g j : ℕ) (hj : j < 7) (O : S2x49x256.Idx → EReal)
    (L : List (View.Piece (Elt Ideal) S2x44x8x256 .f32)) (hL : ∀ p ∈ L, ∀ x : p.1.shape.Idx, p.2 x = G (p.1.emb x))
    (hcov : ∀ z : S2x44x8x256.Idx, (z 0).val = g → (z 1).val < 40 → (z 2).val < 7 → ∃ p ∈ L, z ∈ p.1.set)
    (inb : ∀ a, (![g, j * 7, 0] : Fin 3 → ℕ) a + S1x7x256.size a ≤ S2x49x256.size a)
    (hG : ∀ z : S2x44x8x256.Idx, (z 0).val = g → G z = rowSup x b (z 2).val (col0 b + (z 1).val) (z 3))
    (hO : ∀ z : S2x49x256.Idx, (z 0).val = g → O z = binSup x b ((z 1).val % 7) ((z 1).val / 7) (z 2))
    (off : Fin 4 → ℕ) (hoff : off = ![g, b.x0 - col0 b + j * (b.x1 - b.x0) / 7, 0, 0])
    (inb' : ∀ a, off a + S1x4x8x256.size a ≤ S2x44x8x256.size a) (y : S1x7x256.Idx) :
    k0_pay1 (F := Ideal) (width (BitVec.ofNat 32 j) (BitVec.ofNat 32 (j + 1)) (span v3 v7))
      (v.readAt (Elt Ideal) (Rect.unit (s := S2x44x8x256) off S1x4x8x256.size inb').toLoadRect (v.writes (Elt Ideal) f L)) y
      = O ((Rect.unit (s := S2x49x256) ![g, j * 7, 0] S1x7x256.size inb).emb y) := by
  subst h3 h7
  have hc := col0_le hb
  have hy1 : (y 1).val < 7 := (y 1).isLt
  have hy0 : (y 0).val < 1 := (y 0).isLt
  have hemb : ∀ a : Fin 3, (((Rect.unit (s := S2x49x256) ![g, j * 7, 0] S1x7x256.size inb).emb y) a).val = (![g, j * 7, 0] : Fin 3 → ℕ) a + (y a).val := fun a => by
    show _ + 1 * _ = _
    rw [Nat.one_mul]; rfl
  have h0 := hemb 0; have h1 := hemb 1; have h2 := hemb 2
  have hy : y = ix3 0 (y 1) (y 2) := by blk_ext []
  rw [hO _ (by rw [h0]; show g + _ = g; omega)]
  conv_lhs => rw [hy]
  have e1 : (((Rect.unit (s := S2x49x256) ![g, j * 7, 0] S1x7x256.size inb).emb y) 1).val = j * 7 + (y 1).val := by rw [h1]; rfl
  have e2 : ((Rect.unit (s := S2x49x256) ![g, j * 7, 0] S1x7x256.size inb).emb y) 2 = y 2 := Fin.ext (by rw [h2]; show 0 + _ = _; omega)
  rw [e1, e2, show (j * 7 + (y 1).val) % 7 = (y 1).val by omega, show (j * 7 + (y 1).val) / 7 = j by omega]
  refine col_value hb x j hj _ (y 1) (y 2) fun k hk => ?_
  have hk4 : k.val < 4 := k.isLt
  have hx := hb.x_lo; have hx' := hb.x_hi
  have hstep := edge_step j (b.x1 - b.x0) hj (by omega) (by omega)
  rw [View.readAt_eq_ld, View.ld_apply]
  have hz : ∀ a : Fin 4, (((Rect.unit (s := S2x44x8x256) off S1x4x8x256.size inb').idx (ix4 0 k ⟨(y 1).val, by omega⟩ (y 2))) a).val
      = (![g, b.x0 - col0 b + j * (b.x1 - b.x0) / 7 + k.val, (y 1).val, (y 2).val] : Fin 4 → ℕ) a := by
    intro a
    refine (congrArg (· + 1 * _) (congrFun hoff a)).trans ?_
    fin_cases a
    · show g + 1 * 0 = g; omega
    · show _ + 1 * k.val = _ + k.val; rw [Nat.one_mul]; rfl
    · show 0 + 1 * (y 1).val = (y 1).val; omega
    · show 0 + 1 * (y 2).val = (y 2).val; omega
  generalize (Rect.unit (s := S2x44x8x256) off S1x4x8x256.size inb').idx (ix4 0 k ⟨(y 1).val, by omega⟩ (y 2)) = z at hz
  have z0 : (z 0).val = g := hz 0
  have z1 : (z 1).val = b.x0 - col0 b + j * (b.x1 - b.x0) / 7 + k.val := hz 1
  have z2 : (z 2).val = (y 1).val := hz 2
  have z3 : z 3 = y 2 := Fin.ext (hz 3)
  rw [View.read_writes_apply_of_pieces v f G L hL z (hcov z z0 (by omega) (by omega)), hG z z0, z1, z2, z3]
  congr 1
  omega

end Cert.KernelIdeal.Roi

end
-- ==== Proof.Ideal.Checks.lean ====
/- The side conditions the idealized kernel's body assumes of the words it reads, proved of regions in the drawn range; and
   those words, read off the region table. -/
module

public import proofs.«01_k».proof.Proof.Ideal.Pay

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic

/-- Region `r` of a table of corners: its row, read as natural numbers. -/
def boxOf (T : Fin 256 → Fin 4 → BitVec 32) (r : Fin 256) : Box := ⟨(T r 0).toNat, (T r 1).toNat, (T r 2).toNat, (T r 3).toNat⟩

theorem ofNat_toNat_word (v : BitVec 32) : v = BitVec.ofNat 32 v.toNat := by simp

theorem read_boxOf (T : Fin 256 → Fin 4 → BitVec 32) (r : Fin 256) : Read (boxOf T r) (T r 0) (T r 1) (T r 2) (T r 3) :=
  ⟨ofNat_toNat_word _, ofNat_toNat_word _, ofNat_toNat_word _, ofNat_toNat_word _⟩

section
variable {b : Box} {v3 v5 v7 v9 : BitVec 32}

/-- The first column of the slab is a multiple of 8. -/
theorem chk_align (hb : b.Ok) (hv : Read b v3 v5 v7 v9) : 8 ∣ (align v3).toNat := by
  obtain ⟨hx1, hx2, hx3, hy1, hy2, hy3⟩ := hb
  rw [hv.h3, align_eq b.x0 (by omega), toNat_small _ (by omega)]
  omega

/-- The seven row slabs lie inside the image. -/
theorem chk_rows (hb : b.Ok) (hv : Read b v3 v5 v7 v9) (n : Fin 7) (a : Fin 4) :
    k0_off5 v3 v5 v9 (BitVec.ofNat 32 n.val) a + S1x4x40x256.size a ≤ S1x56x56x256.size a := by
  refine Nat.le_trans (Nat.le_of_eq (congrArg (· + _) (congrFun (off_row hb hv n.val n.isLt) a))) ?_
  have h := col0_le hb
  fin_cases a
  · show 0 + 1 ≤ 1; omega
  · show min (b.y0 + n.val * (b.y1 - b.y0) / 7) 52 + 4 ≤ 56; omega
  · show col0 b + 40 ≤ 56; omega
  · show 0 + 256 ≤ 256; omega

/-- The seven column slabs lie inside the scratch, in either half. -/
theorem chk_cols (hb : b.Ok) (g : ℕ) (hg : g < 2) (off : Fin 4 → ℕ) (j : ℕ) (hj : j < 7)
    (hoff : off = ![g, b.x0 - col0 b + j * (b.x1 - b.x0) / 7, 0, 0]) (a : Fin 4) :
    off a + S1x4x8x256.size a ≤ S2x44x8x256.size a := by
  subst hoff
  have h := col0_le hb
  obtain ⟨hx1, hx2, hx3, hy1, hy2, hy3⟩ := hb
  have hs := edge_step j (b.x1 - b.x0) hj (by omega) (by omega)
  fin_cases a
  · show g + 1 ≤ 2; omega
  · show b.x0 - col0 b + j * (b.x1 - b.x0) / 7 + 4 ≤ 44; omega
  · show 0 + 8 ≤ 8; omega
  · show 0 + 256 ≤ 256; omega
end

section
variable {F : FTy → Type} [FloatOps F]

/-- The side conditions of a step, its two regions in the drawn range. -/
theorem words_of {c : Dev nD} (i : grid0.Coords) (x : TbBuf (F := F) c tabRoi) {b0 b1 : Box} (hb0 : b0.Ok) (hb1 : b1.Ok)
    (hv : Read b0 (word x (k0_off1 i) (k0_off1_inb i)) (word x (k0_off2 i) (k0_off2_inb i)) (word x (k0_off3 i) (k0_off3_inb i)) (word x (k0_off4 i) (k0_off4_inb i)))
    (hw : Read b1 (word x (k0_off7 i) (k0_off7_inb i)) (word x (k0_off8 i) (k0_off8_inb i)) (word x (k0_off9 i) (k0_off9_inb i)) (word x (k0_off10 i) (k0_off10_inb i))) :
    Words i x where
  hw1 := chk_align hb0 hv
  hw3 := fun r => chk_cols hb0 0 (by decide) _ r.val r.isLt (off_col hb0 hv r.val r.isLt).1
  hw2 := chk_rows hb0 hv
  hw4 := chk_align hb1 hw
  hw6 := fun r => chk_cols hb1 1 (by decide) _ r.val r.isLt (off_col hb1 hw r.val r.isLt).2
  hw5 := chk_rows hb1 hw

/-- A word of the region table is the table's entry at its offsets. -/
theorem word_eq {c : Dev nD} (x : TbBuf (F := F) c tabRoi) (off : Fin 2 → ℕ) (inb : ∀ a, off a + S1x1.size a ≤ S256x4.size a)
    (r : Fin 256) (k : Fin 4) (h : off = ![r.val, k.val]) :
    word x off inb = (show S256x4.Idx → BitVec 32 from x) (ix2 r k) := by
  subst h
  refine congrArg (show S256x4.Idx → BitVec 32 from x) (funext fun a => Fin.ext ?_)
  fin_cases a
  · show r.val + 1 * 0 = r.val; omega
  · show k.val + 1 * 0 = k.val; omega

theorem reg_lt (i : grid0.Coords) (g : Fin 2) : (i 0).val * 2 + g.val < 256 := by
  have h : (i 0).val < 128 := (i 0).isLt
  omega

/-- Region `g` of the step at coordinates `i`. -/
def reg (i : grid0.Coords) (g : Fin 2) : Fin 256 := ⟨(i 0).val * 2 + g.val, reg_lt i g⟩

/-- The row of the table that step `i` reads for its region `g`. -/
theorem off_row_word (i : Fin 128) (g : Fin 2) :
    (Scalar.addi (Scalar.muli (BitVec.ofNat 32 i.val) 2#32) (BitVec.ofNat 32 g.val)).toNat = i.val * 2 + g.val := by
  revert i g; decide +kernel

/-- The four words of the step's first region are the table's row. -/
theorem read_first {c : Dev nD} (i : grid0.Coords) (x : TbBuf (F := F) c tabRoi) :
    Read (boxOf (fun r k => (show S256x4.Idx → BitVec 32 from x) (ix2 r k)) (reg i 0))
      (word x (k0_off1 i) (k0_off1_inb i)) (word x (k0_off2 i) (k0_off2_inb i)) (word x (k0_off3 i) (k0_off3_inb i)) (word x (k0_off4 i) (k0_off4_inb i)) := by
  have h := off_row_word (i 0) 0
  rw [word_eq x (k0_off1 i) _ (reg i 0) 0 (congrArg (![·, 0]) h), word_eq x (k0_off2 i) _ (reg i 0) 1 (congrArg (![·, 1]) h),
    word_eq x (k0_off3 i) _ (reg i 0) 2 (congrArg (![·, 2]) h), word_eq x (k0_off4 i) _ (reg i 0) 3 (congrArg (![·, 3]) h)]
  exact read_boxOf _ _

/-- The four words of the step's second region are the table's row. -/
theorem read_second {c : Dev nD} (i : grid0.Coords) (x : TbBuf (F := F) c tabRoi) :
    Read (boxOf (fun r k => (show S256x4.Idx → BitVec 32 from x) (ix2 r k)) (reg i 1))
      (word x (k0_off7 i) (k0_off7_inb i)) (word x (k0_off8 i) (k0_off8_inb i)) (word x (k0_off9 i) (k0_off9_inb i)) (word x (k0_off10 i) (k0_off10_inb i)) := by
  have h := off_row_word (i 0) 1
  rw [word_eq x (k0_off7 i) _ (reg i 1) 0 (congrArg (![·, 0]) h), word_eq x (k0_off8 i) _ (reg i 1) 1 (congrArg (![·, 1]) h),
    word_eq x (k0_off9 i) _ (reg i 1) 2 (congrArg (![·, 2]) h), word_eq x (k0_off10 i) _ (reg i 1) 3 (congrArg (![·, 3]) h)]
  exact read_boxOf _ _
end

end Cert.KernelIdeal.Roi

end
-- ==== Proof.Pre.lean ====
/- What the two preconditions say of the arguments: every region lies in the drawn range, and (the second one) every pixel is
   above minus infinity. -/
module

public import proofs.«01_k».proof.Proof.Gen.Pre_in_range
public import proofs.«01_k».proof.Proof.Gen.Pre_drawn
public import proofs.«01_k».proof.Proof.Ideal.Checks
public import Idealize.ShloMosaic.Lib.ReduceAll
public import Idealize.ShloMosaic.Lib.Pointwise.Tactic

@[expose] public section

set_option maxRecDepth 16384

noncomputable section

namespace Cert.Roi

open Idealize.ShloMosaic Cert.KernelIdeal.Roi

/-- The table of regions that an array of 256 rows of 4 words holds. -/
def corners (x : IVec Cert.KernelIdeal.S256x4 32) : Fin 256 → Fin 4 → BitVec 32 := fun r k => x (ix2 r k)

/-- Ten signed comparisons put a region in the drawn range. -/
theorem ok_of_compares (x0 y0 x1 y1 : BitVec 32) (h1 : (0#32).toInt ≤ x0.toInt) (h2 : (0#32).toInt ≤ y0.toInt)
    (h9 : x0.toInt ≤ (56#32).toInt) (h10 : y0.toInt ≤ (56#32).toInt)
    (h3 : x1.toInt ≤ (56#32).toInt) (h4 : y1.toInt ≤ (56#32).toInt)
    (h5 : (8#32).toInt ≤ (x1 - x0).toInt) (h6 : (x1 - x0).toInt ≤ (27#32).toInt)
    (h7 : (8#32).toInt ≤ (y1 - y0).toInt) (h8 : (y1 - y0).toInt ≤ (27#32).toInt) :
    (⟨x0.toNat, y0.toNat, x1.toNat, y1.toNat⟩ : Box).Ok := by
  simp only [BitVec.toInt_eq_toNat_cond, BitVec.toNat_sub, BitVec.toNat_ofNat] at *
  constructor <;> dsimp only <;> omega

/-- Under the first precondition every region is in the drawn range. -/
theorem ok_of_in_range {F : FTy → Type} [FloatOps F] (x0 : FVec F Cert.Pre_in_range.S8x256x56x56 .f32) (x1 : IVec Cert.Pre_in_range.S256x4 32)
    (x2 : IVec Cert.Pre_in_range.S8 32) (h : Cert.Pre_in_range.fn x0 x1 x2 = fun _ => 1#1) (r : Fin 256) : (boxOf (corners x1) r).Ok := by
  have hr := Host.reduce_andi_all _ _ _ _ (fun a => a.elim0) (congrFun h (fun a => a.elim0)) (ix1 r)
  pointwise at hr
  simp only [IntOp.andi_eq_one, IntOp.cmpi_sge, IntOp.cmpi_sle] at hr
  obtain ⟨⟨⟨⟨⟨⟨⟨⟨⟨h1, h2⟩, h9⟩, h10⟩, h3⟩, h4⟩, h5⟩, h6⟩, h7⟩, h8⟩ := hr
  exact ok_of_compares _ _ _ _ h1 h2 h9 h10 h3 h4 h5 h6 h7 h8

/-- Under the second precondition every region is in the drawn range. -/
theorem ok_of_drawn {F : FTy → Type} [FloatOps F] (x0 : FVec F Cert.Pre_drawn.S8x256x56x56 .f32) (x1 : IVec Cert.Pre_drawn.S256x4 32)
    (x2 : IVec Cert.Pre_drawn.S8 32) (h : Cert.Pre_drawn.fn x0 x1 x2 = fun _ => 1#1) (r : Fin 256) : (boxOf (corners x1) r).Ok := by
  have hr := Host.reduce_andi_all _ _ _ _ (fun a => a.elim0) (IntOp.andi_eq_one.1 (congrFun h (fun a => a.elim0))).1 (ix1 r)
  pointwise at hr
  simp only [IntOp.andi_eq_one, IntOp.cmpi_sge, IntOp.cmpi_sle] at hr
  obtain ⟨⟨⟨⟨⟨⟨⟨⟨⟨h1, h2⟩, h9⟩, h10⟩, h3⟩, h4⟩, h5⟩, h6⟩, h7⟩, h8⟩ := hr
  exact ok_of_compares _ _ _ _ h1 h2 h9 h10 h3 h4 h5 h6 h7 h8

/-- The word of minus infinity is the least extended real. -/
theorem negInf : Ideal.ofBits .f32 4286578688#32 = ⊥ := by simp [Ideal.ofBits, Ideal.ieee]

/-- Under the second precondition every pixel is above minus infinity. -/
theorem pixel_of_drawn (x0 : FVec Ideal Cert.Pre_drawn.S8x256x56x56 .f32) (x1 : IVec Cert.Pre_drawn.S256x4 32)
    (x2 : IVec Cert.Pre_drawn.S8 32) (h : Cert.Pre_drawn.fn x0 x1 x2 = fun _ => 1#1) (i : Cert.Pre_drawn.S8x256x56x56.Idx) :
    (⊥ : EReal) < x0 i := by
  have hr := Host.reduce_andi_all _ _ _ _ (fun a => a.elim0) (IntOp.andi_eq_one.1 (congrFun h (fun a => a.elim0))).2 i
  pointwise at hr
  rw [negInf] at hr
  by_contra hc
  simp [hc] at hr

end Cert.Roi

end
-- ==== Proof.Run.Frame.lean ====
/- The frame of the ROI-pool kernel as compiled, every region in the drawn range: nothing is said of the output, so the body's
   run is stated with its contents forgotten. -/
module

public import proofs.«01_k».proof.Proof.Run.Setup
public import proofs.«01_k».proof.Proof.Ideal.Checks
public import Idealize.ShloMosaic.Lib.Claim

@[expose] public section

set_option maxRecDepth 16384

noncomputable section

namespace Cert.Kernel.Roi

open Cert.Kernel Cert.Kernel.Gen Cert.Roi
open Cert.KernelIdeal.Roi (boxOf Read reg)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6784000 in
/-- One run of the body: it ends, giving back the input blocks and the tables as they were, the output block and the
    scratch at some contents. -/
theorem body_run (c : Dev nD) (i : grid0.Coords) (arg3 : Memref sig .tc .vmem S1x56x56x256 .f32) (harg3 : arg3.IsWhole) (arg4 : Memref sig .tc .vmem S1x56x56x256 .f32) (harg4 : arg4.IsWhole) (arg5 : Memref sig .tc .vmem S2x49x256 .f32) (harg5 : arg5.IsWhole) (arg6 : Memref sig .tc .vmem S2x44x8x256 .f32) (harg6 : arg6.IsWhole)
    (x0 x1 : Vec F S1x56x56x256 .f32) (xt0 : TbBuf (F := F) c tabCs) (xt1 : TbBuf (F := F) c tabRoi) (hW : Words i xt1)
    (E : Set ℕ) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt c tabCs xt0 ∗ tbPt c tabRoi xt1
        ∗ (iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt c tabCs xt0 ∗ tbPt c tabRoi xt1) -∗ K ⟨⟩))
      ⊢ wp frame (wpE (defs₀ (F := F)) Variants.none c none) E (cc0_roi_pool i tabCs htabCs tabRoi htabRoi arg3 harg3 arg4 harg4 arg5 harg5 arg6 harg6) K := by
  obtain ⟨k0_hw1, k0_hw3, k0_hw2, k0_hw4, k0_hw6, k0_hw5⟩ := hW
  simp only [cc0_roi_pool_eq_skeleton]; unfold cc0_roi_pool_skel
  simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
  unfold owns
  iintro ⟨⟨%f0, %hf0, H0⟩, ⟨%f1, %hf1, H1⟩, ⟨%d2, %f2, -, H2⟩, ⟨%ds0, %fs0, -, HS0⟩, HT0, HT1, Hk⟩
  obtain rfl := harg3.eq_unread hf0; obtain rfl := harg4.eq_unread hf1
  sl_exec (disch := first | sl_exact k0_hw1 | sl_exact k0_hw3 | sl_exact k0_hw2 | sl_exact k0_hw4 | sl_exact k0_hw6 | sl_exact k0_hw5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _, _; isplitr; swap; · iexact H2
    ipureintro; rfl
  isplitl [HS0]
  · iexists _, _; isplitr; swap; · iexact HS0
    ipureintro; rfl
  isplitl [HT0]; · iexact HT0
  iexact HT1

variable (m : (ℓ : Loc nD τ sig) → Buf (Elt F) ℓ) (ρ : Dev nD → PrngReg)

/-- Region `r` of the launch memory's table. -/
def box (r : Fin 256) : Box := boxOf (fun r k => (show S256x4.Idx → BitVec 32 from tbl m 1) (ix2 r k)) r

/-- The side conditions of every step, its regions in the drawn range. -/
theorem words (hB : ∀ r, (box m r).Ok) (i : grid0.Coords) : Words (c := (0 : Dev nD)) i (tbl m 1) :=
  have h := Cert.KernelIdeal.Roi.words_of (F := F) (c := 0) i (tbl m 1) (hB (reg i 0)) (hB (reg i 1))
    (Cert.KernelIdeal.Roi.read_first i (tbl m 1)) (Cert.KernelIdeal.Roi.read_second i (tbl m 1))
  ⟨h.hw1, h.hw3, h.hw2, h.hw4, h.hw6, h.hw5⟩

/-- The output window's contents are forgotten. -/
def forgets : Fin 3 → Bool := fun w => w.val == 2

/-- The pipeline's proof data: each input's buffer at its block, nothing said of the output's. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, h⟩ => Pipeline.Dat.unnamed (cfg := (cfgM m hO)) ⟨2, h⟩ t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by
  dsimp only [dats]; try rfl
theorem after1 (hO : Ok m) (c : Dev nD) (t : Fin (cfgM m hO).N) : (dats m hO 0 c).after 1 t = iblk m hO c 1 t := by
  dsimp only [dats]; try rfl

theorem before0 (hO : Ok m) (c : Dev nD) (t : Fin (cfgM m hO).N) (d) : (dats m hO 0 c).before 0 t d = iblk m hO c 0 t :=
  before_in0 m hO (dats m hO 0 c) (A_eq m hO c 0) (after0 m hO c) t d
theorem before1 (hO : Ok m) (c : Dev nD) (t : Fin (cfgM m hO).N) (d) : (dats m hO 0 c).before 1 t d = iblk m hO c 1 t :=
  before_in1 m hO (dats m hO 0 c) (A_eq m hO c 1) (after1 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stage0 (adm m hO) t) fullShare ((dats m hO 0 c).before 0 t d))
    ∗ (∃ d, owns (c : Thread nD τ) (stage1 (adm m hO) t) fullShare ((dats m hO 0 c).before 1 t d))
    ∗ (∃ d, owns (c : Thread nD τ) (stage2 (adm m hO) t) fullShare d))

/-- What the body returns at point `t`. -/
def bodyPost (hO : Ok m) (c : Dev nD) (t : Fin (cfgM m hO).N) : sProp 𝕄 :=
  iprop((dats m hO 0 c).Φ t.succ ∗ (dats m hO 0 c).owesAt () t.succ
    ∗ owns (c : Thread nD τ) (stage0 (adm m hO) t) fullShare ((dats m hO 0 c).after 0 t)
    ∗ owns (c : Thread nD τ) (stage1 (adm m hO) t) fullShare ((dats m hO 0 c).after 1 t)
    ∗ (∃ d, owns (c : Thread nD τ) (stage2 (adm m hO) t) fullShare d))

/-- The body at any point takes the one to the other. -/
theorem sound_body (hO : Ok m) (hB : ∀ r, (box m r).Ok) (c : Dev nD) (t : Fin (cfgM m hO).N) :
    bodyPre m hO c t ⊢ wp frame (wpE (defs₀ (F := F)) Variants.none c none) Set.univ (bodyAt (adm m hO) t) (fun _ => bodyPost m hO c t) := by
  obtain rfl : c = 0 := Subsingleton.elim _ _
  unfold bodyPre bodyPost bodyAt
  simp only [before0, before1]
  rw [show (dats m hO 0 0).Φ t.succ = (dats m hO 0 0).Φ t.castSucc from rfl,
    show (dats m hO 0 0).owesAt () t.succ = (dats m hO 0 0).owesAt () t.castSucc from rfl,
    after0, after1]
  rw [show (dats m hO 0 0).Φ t.castSucc = iprop(Pipeline.ΦA spec0 0 ∗ Pipeline.ΦT pre0 (tbl m) 0) from rfl, PhiT_eq, PhiA_eq]
  iintro ⟨⟨⟨HS0, Hg⟩, ⟨HT0, HT1⟩⟩, Ho, ⟨%d0, H0⟩, ⟨%d1, H1⟩, ⟨%d2, H2⟩⟩
  iapply (body_run 0 (grid0.coords t) _ _ _ _ _ _ _ _ (iblk m hO 0 0 t) (iblk m hO 0 1 t) (tbl m 0) (tbl m 1) (words m hB (grid0.coords t)) Set.univ _)
  isplitl [H0]; · iexact H0
  isplitl [H1]; · iexact H1
  isplitl [H2]; · iexists _; iexact H2
  isplitl [HS0]; · iexact HS0
  isplitl [HT0]; · iexact HT0
  isplitl [HT1]; · iexact HT1
  iintro ⟨H0, H1, H2, HS0, HT0, HT1⟩
  isplitl [HS0 Hg HT0 HT1]
  · isplitl [HS0 Hg]
    · isplitl [HS0]
      · iexact HS0
      iexact Hg
    isplitl [HT0]; · iexact HT0
    iexact HT1
  isplitl [Ho]; · iexact Ho
  isplitl [H0]; · iexact H0
  isplitl [H1]; · iexact H1
  iexact H2

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (hB : ∀ r, (box m r).Ok) (c : Dev nD) :
    BodyObligation (dats (F := F) m hO 0 c) (defs₀ (F := F)) Variants.none () Set.univ forgets := fun t => by
  rw [bigSep_W0, bigSep_W0, defs₀_row m hO]
  exact triple_restated (sound_body m hO hB c t) rfl .rfl fun _ => .rfl

set_option backward.isDefEq.respectTransparency.types false in
set_option maxHeartbeats 800000 in
/-- The run: every fair execution ends, every buffer the region and the later lines do not write as it was. -/
theorem run_main (hO : Ok m) (hB : ∀ r, (box m r).Ok) : θ_run defs (onTc (τ := τ) (main (F := F))) (s₀ m ρ)
    (fun r => Pipeline.RDat.FramePostR ((Pipeline.pin pcfgs fun _ => adm m hO) 0) (fun c => (dats m hO 0 c).toRForget forgets) T0 (V m) r ∧ r.2.sem = fun _ => 0) :=
  Pipeline.θ_run_frameP_around_T_forget_shared (Q' := _) pcfgs (fun _ => adm m hO) (dats m hO) (0 : Fin 1) launch₀0 defs₀ Variants.none forgets T0 m ρ main
    (hbody := fun c => (body_obligation m hO hB c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hΦ := fun _ _ => rfl)

/-- The frame: every fair execution ends with the arguments unchanged and every semaphore at zero. -/
theorem frame_run (hO : Ok m) (hB : ∀ r, (box m r).Ok) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (by decide : main_arg0 ∈ Pipeline.restRefs sig spec0 \ T0)).trans (V_main_arg0 m c),
      ((h.1 c).2 main_arg1 (by decide : main_arg1 ∈ Pipeline.restRefs sig spec0 \ T0)).trans (V_main_arg1 m c),
      ((h.1 c).2 main_arg2 (by decide : main_arg2 ∈ Pipeline.restRefs sig spec0 \ T0)).trans (V_main_arg2 m c)⟩, h.2⟩) (run_main m ρ hO hB)

end Cert.Kernel.Roi

end
-- ==== Proof.Ideal.Body.lean ====
/- What one run of the idealized kernel's body leaves: the 14 row stores fill the scratch with row maxima, the 14 column
   stores fill the output block with bin maxima. -/
module

public import proofs.«01_k».proof.Proof.Ideal.Setup
public import proofs.«01_k».proof.Proof.Ideal.Pay

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The row stores -/

theorem row_inb (g n : ℕ) (hg : g < 2) (hn : n < 7) (a : Fin 4) : (![g, 0, n, 0] : Fin 4 → ℕ) a + S1x40x1x256.size a ≤ S2x44x8x256.size a := by
  fin_cases a
  · show g + 1 ≤ 2; omega
  · show 0 + 40 ≤ 44; omega
  · show n + 1 ≤ 8; omega
  · show 0 + 256 ≤ 256; omega

theorem col_inb (g j : ℕ) (hg : g < 2) (hj : j < 7) (a : Fin 3) : (![g, j * 7, 0] : Fin 3 → ℕ) a + S1x7x256.size a ≤ S2x49x256.size a := by
  fin_cases a
  · show g + 1 ≤ 2; omega
  · show j * 7 + 7 ≤ 49; omega
  · show 0 + 256 ≤ 256; omega

section
variable {sp sp' : Space} (v : View sig .tc sp S1x56x56x256 .f32) (f : v.ty.Contents (Elt Ideal)) (v3 v5 v7 v9 : BitVec 32)
  (h : ∀ n : Fin 7, ∀ a, k0_off5 v3 v5 v9 (BitVec.ofNat 32 n.val) a + S1x4x40x256.size a ≤ S1x56x56x256.size a)

/-- The store of row bin `n` of region `g` of the step. -/
def rowPiece (g : ℕ) (hg : g < 2) (n : ℕ) (hn : n < 7) : View.Piece (Elt Ideal) S2x44x8x256 .f32 :=
  ⟨Rect.unit (s := S2x44x8x256) ![g, 0, n, 0] S1x40x1x256.size (row_inb g n hg hn),
    k0_pay3 (F := Ideal) (width (BitVec.ofNat 32 n) (BitVec.ofNat 32 (n + 1)) (span v5 v9)) (skip v5 (BitVec.ofNat 32 n) (span v5 v9))
      (k0_pay2 (v.readAt (Elt Ideal) (Rect.unit (s := S1x56x56x256) (k0_off5 v3 v5 v9 (BitVec.ofNat 32 n)) S1x4x40x256.size (h ⟨n, hn⟩)).toLoadRect f))⟩

/-- The first `k` row stores of region `g`, the newest first. -/
def rowList (g : ℕ) (hg : g < 2) : (k : ℕ) → k ≤ 7 → List (View.Piece (Elt Ideal) S2x44x8x256 .f32)
  | 0, _ => []
  | k + 1, hk => rowPiece v f v3 v5 v9 h g hg k hk :: rowList g hg k (Nat.le_of_succ_le hk)

theorem rowList_pieces {b : Box} (hb : b.Ok) (hv : Read b v3 v5 v7 v9) (x : Vec Ideal S1x56x56x256 .f32) (hf : v.read (Elt Ideal) f = x)
    (G : S2x44x8x256.Idx → EReal) (g : ℕ) (hg : g < 2)
    (hG : ∀ z : S2x44x8x256.Idx, (z 0).val = g → G z = rowSup x b (z 2).val (col0 b + (z 1).val) (z 3)) :
    ∀ (k : ℕ) (hk : k ≤ 7), ∀ p ∈ rowList v f v3 v5 v9 h g hg k hk, ∀ y : p.1.shape.Idx, p.2 y = G (p.1.emb y)
  | 0, _, p, hp, _ => absurd hp List.not_mem_nil
  | k + 1, hk, p, hp, y => by
    rcases List.mem_cons.mp hp with rfl | hp
    · exact row_piece hb hv x hf G g k hk (row_inb g k hg hk) hG (h ⟨k, hk⟩) y
    · exact rowList_pieces hb hv x hf G g hg hG k (Nat.le_of_succ_le hk) p hp y

theorem rowPiece_mem (g : ℕ) (hg : g < 2) (n : ℕ) (hn : n < 7) : ∀ (k : ℕ) (hk : k ≤ 7), n < k →
    rowPiece v f v3 v5 v9 h g hg n hn ∈ rowList v f v3 v5 v9 h g hg k hk
  | 0, _, hnk => absurd hnk (Nat.not_lt_zero _)
  | k + 1, hk, hnk => by
    rcases Nat.lt_succ_iff_lt_or_eq.mp hnk with hlt | rfl
    · exact List.mem_cons_of_mem _ (rowPiece_mem g hg n hn k (Nat.le_of_succ_le hk) hlt)
    · exact List.mem_cons_self

/-- The seven row stores of a region cover its first 40 scratch columns. -/
theorem rowList_cover (g : ℕ) (hg : g < 2) (z : S2x44x8x256.Idx) (z0 : (z 0).val = g) (z1 : (z 1).val < 40) (z2 : (z 2).val < 7) :
    ∃ p ∈ rowList v f v3 v5 v9 h g hg 7 (Nat.le_refl _), z ∈ p.1.set := by
  refine ⟨_, rowPiece_mem v f v3 v5 v9 h g hg (z 2).val z2 7 (Nat.le_refl _) z2, ?_⟩
  refine (Rect.mem_set_unit (inb := row_inb g (z 2).val hg z2)).mpr fun a => ?_
  have z3 : (z 3).val < 256 := (z 3).isLt
  fin_cases a
  · show g ≤ (z 0).val ∧ (z 0).val < g + 1; omega
  · show 0 ≤ (z 1).val ∧ (z 1).val < 0 + 40; omega
  · show (z 2).val ≤ (z 2).val ∧ (z 2).val < (z 2).val + 1; omega
  · show 0 ≤ (z 3).val ∧ (z 3).val < 0 + 256; omega
end

/-! ## The column stores -/

section
variable {sp : Space} (v : View sig .tc sp S2x44x8x256 .f32) (f : v.ty.Contents (Elt Ideal)) (L : List (View.Piece (Elt Ideal) S2x44x8x256 .f32))
  (v3 v7 : BitVec 32) (off : BitVec 32 → Fin 4 → ℕ)
  (h : ∀ n : Fin 7, ∀ a, off (BitVec.ofNat 32 n.val) a + S1x4x8x256.size a ≤ S2x44x8x256.size a)

/-- The store of column bin `j` of region `g` of the step, its slab read from the scratch the stores `L` left. -/
def colPiece (g : ℕ) (hg : g < 2) (j : ℕ) (hj : j < 7) : View.Piece (Elt Ideal) S2x49x256 .f32 :=
  ⟨Rect.unit (s := S2x49x256) ![g, j * 7, 0] S1x7x256.size (col_inb g j hg hj),
    k0_pay1 (F := Ideal) (width (BitVec.ofNat 32 j) (BitVec.ofNat 32 (j + 1)) (span v3 v7))
      (v.readAt (Elt Ideal) (Rect.unit (s := S2x44x8x256) (off (BitVec.ofNat 32 j)) S1x4x8x256.size (h ⟨j, hj⟩)).toLoadRect (v.writes (Elt Ideal) f L))⟩

/-- The first `k` column stores of region `g`, the newest first. -/
def colList (g : ℕ) (hg : g < 2) : (k : ℕ) → k ≤ 7 → List (View.Piece (Elt Ideal) S2x49x256 .f32)
  | 0, _ => []
  | k + 1, hk => colPiece v f L v3 v7 off h g hg k hk :: colList g hg k (Nat.le_of_succ_le hk)

theorem colList_pieces {b : Box} (hb : b.Ok) (h3 : v3 = BitVec.ofNat 32 b.x0) (h7 : v7 = BitVec.ofNat 32 b.x1) (x : Vec Ideal S1x56x56x256 .f32)
    (G : S2x44x8x256.Idx → EReal) (g : ℕ) (hg : g < 2) (O : S2x49x256.Idx → EReal)
    (hL : ∀ p ∈ L, ∀ x : p.1.shape.Idx, p.2 x = G (p.1.emb x))
    (hcov : ∀ z : S2x44x8x256.Idx, (z 0).val = g → (z 1).val < 40 → (z 2).val < 7 → ∃ p ∈ L, z ∈ p.1.set)
    (hG : ∀ z : S2x44x8x256.Idx, (z 0).val = g → G z = rowSup x b (z 2).val (col0 b + (z 1).val) (z 3))
    (hO : ∀ z : S2x49x256.Idx, (z 0).val = g → O z = binSup x b ((z 1).val % 7) ((z 1).val / 7) (z 2))
    (hoff : ∀ j, j < 7 → off (BitVec.ofNat 32 j) = ![g, b.x0 - col0 b + j * (b.x1 - b.x0) / 7, 0, 0]) :
    ∀ (k : ℕ) (hk : k ≤ 7), ∀ p ∈ colList v f L v3 v7 off h g hg k hk, ∀ y : p.1.shape.Idx, p.2 y = O (p.1.emb y)
  | 0, _, p, hp, _ => absurd hp List.not_mem_nil
  | k + 1, hk, p, hp, y => by
    rcases List.mem_cons.mp hp with rfl | hp
    · exact col_piece hb h3 h7 x G g k hk O L hL hcov (col_inb g k hg hk) hG hO _ (hoff k hk) (h ⟨k, hk⟩) y
    · exact colList_pieces hb h3 h7 x G g hg O hL hcov hG hO hoff k (Nat.le_of_succ_le hk) p hp y

theorem colPiece_mem (g : ℕ) (hg : g < 2) (j : ℕ) (hj : j < 7) : ∀ (k : ℕ) (hk : k ≤ 7), j < k →
    colPiece v f L v3 v7 off h g hg j hj ∈ colList v f L v3 v7 off h g hg k hk
  | 0, _, hjk => absurd hjk (Nat.not_lt_zero _)
  | k + 1, hk, hjk => by
    rcases Nat.lt_succ_iff_lt_or_eq.mp hjk with hlt | rfl
    · exact List.mem_cons_of_mem _ (colPiece_mem g hg j hj k (Nat.le_of_succ_le hk) hlt)
    · exact List.mem_cons_self

/-- The seven column stores of a region cover its half of the output block. -/
theorem colList_cover (g : ℕ) (hg : g < 2) (z : S2x49x256.Idx) (z0 : (z 0).val = g) :
    ∃ p ∈ colList v f L v3 v7 off h g hg 7 (Nat.le_refl _), z ∈ p.1.set := by
  have z1 : (z 1).val < 49 := (z 1).isLt
  have z2 : (z 2).val < 256 := (z 2).isLt
  have hj : (z 1).val / 7 < 7 := by omega
  refine ⟨_, colPiece_mem v f L v3 v7 off h g hg ((z 1).val / 7) hj 7 (Nat.le_refl _) hj, ?_⟩
  refine (Rect.mem_set_unit (inb := col_inb g ((z 1).val / 7) hg hj)).mpr fun a => ?_
  fin_cases a
  · show g ≤ (z 0).val ∧ (z 0).val < g + 1; omega
  · show (z 1).val / 7 * 7 ≤ (z 1).val ∧ (z 1).val < (z 1).val / 7 * 7 + 7; omega
  · show 0 ≤ (z 2).val ∧ (z 2).val < 0 + 256; omega
end

/-! ## The whole block -/

/-- The scratch: the row maxima of both regions. -/
def rowFun (x0 x1 : Vec Ideal S1x56x56x256 .f32) (b0 b1 : Box) : S2x44x8x256.Idx → EReal := fun z =>
  if (z 0).val = 0 then rowSup x0 b0 (z 2).val (col0 b0 + (z 1).val) (z 3) else rowSup x1 b1 (z 2).val (col0 b1 + (z 1).val) (z 3)

/-- The output block of a step: the bin maxima of both regions. -/
def outFun (x0 x1 : Vec Ideal S1x56x56x256 .f32) (b0 b1 : Box) : Vec Ideal S2x49x256 .f32 := fun z =>
  if (z 0).val = 0 then binSup x0 b0 ((z 1).val % 7) ((z 1).val / 7) (z 2) else binSup x1 b1 ((z 1).val % 7) ((z 1).val / 7) (z 2)

/-- The stores of one run leave the bin maxima in the output block, whatever the scratch and the block held before. -/
theorem stores_read {spa spb spo sps : Space} {b0 b1 : Box} (hb0 : b0.Ok) (hb1 : b1.Ok) {v3 v5 v7 v9 w3 w5 w7 w9 : BitVec 32}
    (hv : Read b0 v3 v5 v7 v9) (hw : Read b1 w3 w5 w7 w9)
    (va : View sig .tc spa S1x56x56x256 .f32) (fa : va.ty.Contents (Elt Ideal)) (x0 : Vec Ideal S1x56x56x256 .f32) (ha : va.read (Elt Ideal) fa = x0)
    (vb : View sig .tc spb S1x56x56x256 .f32) (fb : vb.ty.Contents (Elt Ideal)) (x1 : Vec Ideal S1x56x56x256 .f32) (hb : vb.read (Elt Ideal) fb = x1)
    (vs : View sig .tc sps S2x44x8x256 .f32) (fs : vs.ty.Contents (Elt Ideal)) (vo : View sig .tc spo S2x49x256 .f32) (fo : vo.ty.Contents (Elt Ideal))
    (hr0 : ∀ n : Fin 7, ∀ a, k0_off5 v3 v5 v9 (BitVec.ofNat 32 n.val) a + S1x4x40x256.size a ≤ S1x56x56x256.size a)
    (hr1 : ∀ n : Fin 7, ∀ a, k0_off5 w3 w5 w9 (BitVec.ofNat 32 n.val) a + S1x4x40x256.size a ≤ S1x56x56x256.size a)
    (hc0 : ∀ n : Fin 7, ∀ a, k0_off6 v3 v7 (BitVec.ofNat 32 n.val) a + S1x4x8x256.size a ≤ S2x44x8x256.size a)
    (hc1 : ∀ n : Fin 7, ∀ a, k0_off12 w3 w7 (BitVec.ofNat 32 n.val) a + S1x4x8x256.size a ≤ S2x44x8x256.size a) :
    vo.read (Elt Ideal) (vo.writes (Elt Ideal) fo
      (colList vs fs (rowList vb fb w3 w5 w9 hr1 1 (by decide) 7 (Nat.le_refl _) ++ rowList va fa v3 v5 v9 hr0 0 (by decide) 7 (Nat.le_refl _)) w3 w7
          (k0_off12 w3 w7) hc1 1 (by decide) 7 (Nat.le_refl _)
        ++ colList vs fs (rowList va fa v3 v5 v9 hr0 0 (by decide) 7 (Nat.le_refl _)) v3 v7 (k0_off6 v3 v7) hc0 0 (by decide) 7 (Nat.le_refl _)))
      = outFun x0 x1 b0 b1 := by
  have hG0 : ∀ z : S2x44x8x256.Idx, (z 0).val = 0 → rowFun x0 x1 b0 b1 z = rowSup x0 b0 (z 2).val (col0 b0 + (z 1).val) (z 3) :=
    fun z hz => if_pos hz
  have hG1 : ∀ z : S2x44x8x256.Idx, (z 0).val = 1 → rowFun x0 x1 b0 b1 z = rowSup x1 b1 (z 2).val (col0 b1 + (z 1).val) (z 3) :=
    fun z hz => if_neg (by omega)
  have hL0 := rowList_pieces va fa v3 v5 v7 v9 hr0 hb0 hv x0 ha (rowFun x0 x1 b0 b1) 0 (by decide) hG0 7 (Nat.le_refl _)
  have hL1 := rowList_pieces vb fb w3 w5 w7 w9 hr1 hb1 hw x1 hb (rowFun x0 x1 b0 b1) 1 (by decide) hG1 7 (Nat.le_refl _)
  refine funext fun y => View.read_writes_apply_of_pieces vo fo (outFun x0 x1 b0 b1) _ (fun p hp => ?_) y ?_
  · rcases List.mem_append.mp hp with hp | hp
    · exact colList_pieces vs fs _ w3 w7 _ hc1 hb1 hw.h3 hw.h7 x1 (rowFun x0 x1 b0 b1) 1 (by decide) (outFun x0 x1 b0 b1)
        (fun q hq => (List.mem_append.mp hq).elim (hL1 q) (hL0 q))
        (fun z z0 z1 z2 => by
          obtain ⟨q, hq, hz⟩ := rowList_cover vb fb w3 w5 w9 hr1 1 (by decide) z z0 z1 z2
          exact ⟨q, List.mem_append_left _ hq, hz⟩)
        hG1 (fun z hz => if_neg (by omega)) (fun j hj => (off_col hb1 hw j hj).2) 7 _ p hp
    · exact colList_pieces vs fs _ v3 v7 _ hc0 hb0 hv.h3 hv.h7 x0 (rowFun x0 x1 b0 b1) 0 (by decide) (outFun x0 x1 b0 b1) hL0
        (fun z z0 z1 z2 => rowList_cover va fa v3 v5 v9 hr0 0 (by decide) z z0 z1 z2)
        hG0 (fun z hz => if_pos hz) (fun j hj => (off_col hb0 hv j hj).1) 7 _ p hp
  · have y0 : (y 0).val < 2 := (y 0).isLt
    rcases (by omega : (y 0).val = 1 ∨ (y 0).val = 0) with h | h
    · obtain ⟨q, hq, hz⟩ := colList_cover vs fs (rowList vb fb w3 w5 w9 hr1 1 (by decide) 7 (Nat.le_refl _) ++ rowList va fa v3 v5 v9 hr0 0 (by decide) 7 (Nat.le_refl _)) w3 w7
          (k0_off12 w3 w7) hc1 1 (by decide) y h
      exact ⟨q, List.mem_append_left _ hq, hz⟩
    · obtain ⟨q, hq, hz⟩ := colList_cover vs fs (rowList va fa v3 v5 v9 hr0 0 (by decide) 7 (Nat.le_refl _)) v3 v7 (k0_off6 v3 v7) hc0 0 (by decide) y h
      exact ⟨q, List.mem_append_right _ hq, hz⟩

set_option maxHeartbeats 6784000 in
/-- One run of the body at coordinates `i`, its region words being those of the boxes `b0` and `b1`: from the two input
    blocks `x0`, `x1` it leaves the bin maxima in the output's staging buffer and gives everything else back. -/
theorem body_run (c : Dev nD) (i : grid0.Coords) (arg3 : Memref sig .tc .vmem S1x56x56x256 .f32) (harg3 : arg3.IsWhole) (arg4 : Memref sig .tc .vmem S1x56x56x256 .f32) (harg4 : arg4.IsWhole) (arg5 : Memref sig .tc .vmem S2x49x256 .f32) (harg5 : arg5.IsWhole) (arg6 : Memref sig .tc .vmem S2x44x8x256 .f32) (harg6 : arg6.IsWhole)
    (x0 x1 : Vec Ideal S1x56x56x256 .f32) (xt0 : TbBuf (F := Ideal) c tabCs) (xt1 : TbBuf (F := Ideal) c tabRoi) (hW : Words i xt1)
    {b0 b1 : Box} (hb0 : b0.Ok) (hb1 : b1.Ok)
    (hv : Read b0 (word xt1 (k0_off1 i) (k0_off1_inb i)) (word xt1 (k0_off2 i) (k0_off2_inb i)) (word xt1 (k0_off3 i) (k0_off3_inb i)) (word xt1 (k0_off4 i) (k0_off4_inb i)))
    (hw : Read b1 (word xt1 (k0_off7 i) (k0_off7_inb i)) (word xt1 (k0_off8 i) (k0_off8_inb i)) (word xt1 (k0_off9 i) (k0_off9_inb i)) (word xt1 (k0_off10 i) (k0_off10_inb i)))
    (E : Set ℕ) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ tbPt c tabCs xt0 ∗ tbPt c tabRoi xt1
        ∗ (iprop(owns (c : Thread nD τ) arg3 fullShare x0 ∗ owns (c : Thread nD τ) arg4 fullShare x1 ∗ owns (c : Thread nD τ) arg5 fullShare (outFun x0 x1 b0 b1) ∗ (∃ d, owns (c : Thread nD τ) arg6 fullShare d) ∗ tbPt c tabCs xt0 ∗ tbPt c tabRoi xt1) -∗ K ⟨⟩))
      ⊢ wp frame (wpE (defs₀ (F := Ideal)) Variants.none c none) E (cc0_roi_pool i tabCs htabCs tabRoi htabRoi arg3 harg3 arg4 harg4 arg5 harg5 arg6 harg6) K := by
  obtain ⟨k0_hw1, k0_hw3, k0_hw2, k0_hw4, k0_hw6, k0_hw5⟩ := hW
  simp only [cc0_roi_pool_eq_skeleton]; unfold cc0_roi_pool_skel
  simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
  unfold owns
  iintro ⟨⟨%f0, %hf0, H0⟩, ⟨%f1, %hf1, H1⟩, ⟨%d2, %f2, -, H2⟩, ⟨%ds0, %fs0, -, HS0⟩, HT0, HT1, Hk⟩
  obtain rfl := harg3.eq_unread hf0; obtain rfl := harg4.eq_unread hf1
  sl_exec (disch := first | sl_exact k0_hw1 | sl_exact k0_hw3 | sl_exact k0_hw2 | sl_exact k0_hw4 | sl_exact k0_hw6 | sl_exact k0_hw5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    exact stores_read hb0 hb1 hv hw arg3.view _ x0 (harg3.read_unread x0) arg4.view _ x1 (harg4.read_unread x1) arg6.view fs0 arg5.view f2 k0_hw2 k0_hw5 k0_hw3 k0_hw6
  isplitl [HS0]
  · iexists _, _; isplitr; swap; · iexact HS0
    ipureintro; rfl
  isplitl [HT0]; · iexact HT0
  iexact HT1

end Cert.KernelIdeal.Roi

end
-- ==== Proof.Ideal.Frame.lean ====
/- The run of the idealized ROI-pool kernel, every region in the drawn range: the pipeline's proof data, whose output block
   at each point is the bin maxima of the step's two regions, the body obligation and the run. -/
module

public import proofs.«01_k».proof.Proof.Ideal.Body
public import proofs.«01_k».proof.Proof.Ideal.Checks
public import Idealize.ShloMosaic.Lib.Claim

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The region table, row by row. -/
def rois (r : Fin 256) (k : Fin 4) : BitVec 32 := (show S256x4.Idx → BitVec 32 from tbl m 1) (ix2 r k)

/-- Region `r`. -/
def box (r : Fin 256) : Box := boxOf (rois m) r

/-- The coordinates of point `t` and the region they name. -/
def regAt (hO : Ok m) (t : Fin (cfgM m hO).N) (g : Fin 2) : Fin 256 := reg (grid0.coords t) g

/-- The pipeline's proof data: after the body each input's buffer at its block, the output's at the bin maxima. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outFun (iblk m hO c 0 t) (iblk m hO c 1 t) (box m (regAt m hO t 0)) (box m (regAt m hO t 1))
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by
  dsimp only [dats]; try rfl
theorem after1 (hO : Ok m) (c : Dev nD) (t : Fin (cfgM m hO).N) : (dats m hO 0 c).after 1 t = iblk m hO c 1 t := by
  dsimp only [dats]; try rfl
theorem after2 (hO : Ok m) (c : Dev nD) (t : Fin (cfgM m hO).N) : (dats m hO 0 c).after 2 t
    = outFun (iblk m hO c 0 t) (iblk m hO c 1 t) (box m (regAt m hO t 0)) (box m (regAt m hO t 1)) := by
  dsimp only [dats]; try rfl

theorem before0 (hO : Ok m) (c : Dev nD) (t : Fin (cfgM m hO).N) (d) : (dats m hO 0 c).before 0 t d = iblk m hO c 0 t :=
  before_in0 m hO (dats m hO 0 c) (A_eq m hO c 0) (after0 m hO c) t d
theorem before1 (hO : Ok m) (c : Dev nD) (t : Fin (cfgM m hO).N) (d) : (dats m hO 0 c).before 1 t d = iblk m hO c 1 t :=
  before_in1 m hO (dats m hO 0 c) (A_eq m hO c 1) (after1 m hO c) t d

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stage0 (adm m hO) t) fullShare ((dats m hO 0 c).before 0 t d))
    ∗ (∃ d, owns (c : Thread nD τ) (stage1 (adm m hO) t) fullShare ((dats m hO 0 c).before 1 t d))
    ∗ (∃ d, owns (c : Thread nD τ) (stage2 (adm m hO) t) fullShare ((dats m hO 0 c).before 2 t d)))

/-- What the body returns at point `t`. -/
def bodyPost (hO : Ok m) (c : Dev nD) (t : Fin (cfgM m hO).N) : sProp 𝕄 :=
  iprop((dats m hO 0 c).Φ t.succ ∗ (dats m hO 0 c).owesAt () t.succ
    ∗ owns (c : Thread nD τ) (stage0 (adm m hO) t) fullShare ((dats m hO 0 c).after 0 t)
    ∗ owns (c : Thread nD τ) (stage1 (adm m hO) t) fullShare ((dats m hO 0 c).after 1 t)
    ∗ owns (c : Thread nD τ) (stage2 (adm m hO) t) fullShare ((dats m hO 0 c).after 2 t))

/-- The body at any point takes the one to the other. -/
theorem sound_body (hO : Ok m) (hB : ∀ r, (box m r).Ok) (c : Dev nD) (t : Fin (cfgM m hO).N) :
    bodyPre m hO c t ⊢ wp frame (wpE (defs₀ (F := Ideal)) Variants.none c none) Set.univ (bodyAt (adm m hO) t) (fun _ => bodyPost m hO c t) := by
  unfold bodyPre bodyPost bodyAt
  simp only [before0, before1]
  rw [show (dats m hO 0 c).Φ t.succ = (dats m hO 0 c).Φ t.castSucc from rfl,
    show (dats m hO 0 c).owesAt () t.succ = (dats m hO 0 c).owesAt () t.castSucc from rfl,
    after0, after1, after2]
  rw [show (dats m hO 0 c).Φ t.castSucc = iprop(Pipeline.ΦA spec0 c ∗ Pipeline.ΦT pre0 (tbl m) c) from rfl, PhiT_eq, PhiA_eq]
  iintro ⟨⟨⟨HS0, Hg⟩, ⟨HT0, HT1⟩⟩, Ho, ⟨%d0, H0⟩, ⟨%d1, H1⟩, ⟨%d2, H2⟩⟩
  iapply (body_run c (grid0.coords t) _ _ _ _ _ _ _ _ (iblk m hO c 0 t) (iblk m hO c 1 t) (tbl m 0) (tbl m 1)
    (words_of (grid0.coords t) (tbl m 1) (hB (regAt m hO t 0)) (hB (regAt m hO t 1)) (read_first (grid0.coords t) (tbl m 1)) (read_second (grid0.coords t) (tbl m 1)))
    (hB (regAt m hO t 0)) (hB (regAt m hO t 1)) (read_first (grid0.coords t) (tbl m 1)) (read_second (grid0.coords t) (tbl m 1)) Set.univ _)
  isplitl [H0]; · iexact H0
  isplitl [H1]; · iexact H1
  isplitl [H2]; · iexists _; iexact H2
  isplitl [HS0]; · iexact HS0
  isplitl [HT0]; · iexact HT0
  isplitl [HT1]; · iexact HT1
  iintro ⟨H0, H1, H2, HS0, HT0, HT1⟩
  isplitl [HS0 Hg HT0 HT1]
  · isplitl [HS0 Hg]
    · isplitl [HS0]
      · iexact HS0
      iexact Hg
    isplitl [HT0]; · iexact HT0
    iexact HT1
  isplitl [Ho]; · iexact Ho
  isplitl [H0]; · iexact H0
  isplitl [H1]; · iexact H1
  iexact H2

theorem defs₀_row (hO : Ok m) (t : Fin (cfgM m hO).N) :
    defs₀ (F := Ideal) .tc (cfgM m hO).body ((cfgM m hO).bodyArgs t ((cfgM m hO).slots t)) = bodyAt (adm m hO) t := by
  unfold defs₀; rw [Defs.onTc_tc]

theorem body_obligation (hO : Ok m) (hB : ∀ r, (box m r).Ok) (c : Dev nD) :
    BodyObligation (dats m hO 0 c) (defs₀ (F := Ideal)) Variants.none () Set.univ := fun t => by
  rw [bigSep_W0, bigSep_W0, defs₀_row m hO]
  exact triple_restated (sound_body m hO hB c t) rfl .rfl fun _ => .rfl

set_option backward.isDefEq.respectTransparency.types false in
set_option maxHeartbeats 800000 in
/-- The run: every fair execution ends, with every array of the pipeline as the points' write-backs leave it, every other
    buffer as the host lines after the region leave it, and every semaphore at zero. -/
theorem run_main (hO : Ok m) (hB : ∀ r, (box m r).Ok) : θ_run defs (onTc (τ := τ) (main (F := Ideal))) (s₀ m ρ)
    (fun r => Pipeline.FramePost (Pipeline.pin pcfgs fun _ => adm m hO) (dats m hO) 0 (Pipeline.afterTail pcfgs (fun _ => adm m hO) (dats m hO) 0 (V0 m) [hostOps1]) r
      ∧ r.2.sem = fun _ => 0) :=
  Pipeline.θ_run_frameP_around_shared (Q' := _) pcfgs (fun _ => adm m hO) (dats m hO) (0 : Fin 1) launch₀0 defs₀ Variants.none m ρ main
    (hbody := fun c => (body_obligation m hO hB c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

end Cert.KernelIdeal.Roi

end
-- ==== Proof.Ideal.Image.lean ====
/- The image each region of the idealized kernel lies in: the index maps of the two input windows, as the number of entries of
   the table of running counts that the region's number reaches. -/
module

public import proofs.«01_k».proof.Proof.Ideal.Checks

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic

/-- The image of the region numbered `k + 1`: how many of the eight running counts are at most `k`, and at most 7. -/
def image (cs : Fin 8 → BitVec 32) (k : BitVec 32) : ℕ := min (∑ b, (IntOp.cmpi .sge k (cs b)).toNat) 7

theorem image_lt (cs : Fin 8 → BitVec 32) (k : BitVec 32) : image cs k < 8 := by
  unfold image; omega

/-- Eight flags added up one by one as words, cut off at 7. -/
def flagWord (f : Fin 8 → BitVec 1) : BitVec 32 :=
  let one : BitVec 1 → BitVec 32 := fun b => Scalar.select b 1#32 0#32
  Scalar.minsi (Scalar.addi (Scalar.addi (Scalar.addi (Scalar.addi (Scalar.addi (Scalar.addi (Scalar.addi (Scalar.addi 0#32 (one (f 0))) (one (f 1))) (one (f 2))) (one (f 3)))
    (one (f 4))) (one (f 5))) (one (f 6))) (one (f 7))) 7#32

theorem flagWord_bools : ∀ a b c d e f g h : Bool,
    (flagWord ![BitVec.ofBool a, BitVec.ofBool b, BitVec.ofBool c, BitVec.ofBool d, BitVec.ofBool e, BitVec.ofBool f, BitVec.ofBool g, BitVec.ofBool h]).toNat
      = min (a.toNat + b.toNat + c.toNat + d.toNat + e.toNat + f.toNat + g.toNat + h.toNat) 7 := by
  decide +kernel

theorem flagWord_toNat (f : Fin 8 → BitVec 1) : (flagWord f).toNat = min (∑ b, (f b).toNat) 7 := by
  have hf : ∀ v : BitVec 1, ∃ p : Bool, v = BitVec.ofBool p := by decide
  choose p hp using fun b => hf (f b)
  have h := flagWord_bools (p 0) (p 1) (p 2) (p 3) (p 4) (p 5) (p 6) (p 7)
  simp only [← hp] at h
  have hs : ∑ b, (f b).toNat = (p 0).toNat + (p 1).toNat + (p 2).toNat + (p 3).toNat + (p 4).toNat + (p 5).toNat + (p 6).toNat + (p 7).toNat := by
    simp only [Fin.sum_univ_eight, hp, BitVec.toNat_ofBool]
  rw [hs, ← h]
  rfl

section
variable {F : FTy → Type} [FloatOps F]

/-- The table of running counts, entry by entry. -/
def counts (pf : pre0.Contents (Elt F)) : Fin 8 → BitVec 32 := fun b => (show S8.Idx → BitVec 32 from pf 0) (ix1 b)

theorem entry_inb (b : Fin 8) (a : Fin 1) : (![b.val] : Fin 1 → ℕ) a + S1.size a ≤ S8.size a := by
  fin_cases a
  show b.val + 1 ≤ 8
  omega

/-- One entry, as the index maps load it. -/
def entry (pf : pre0.Contents (Elt F)) (b : Fin 8) : BitVec 32 := pf.at 0 (Rect.unit (s := S8) ![b.val] S1.size (entry_inb b)) numel1_S1

theorem entry_eq (pf : pre0.Contents (Elt F)) (b : Fin 8) : entry pf b = counts pf b := by
  refine congrArg (show S8.Idx → BitVec 32 from pf 0) (funext fun a => Fin.ext ?_)
  fin_cases a
  show b.val + 1 * 0 = b.val
  omega

/-- The number of a region as the index maps work it out, less one. -/
theorem reg_word (i : grid0.Coords) (g : Fin 2) :
    Scalar.subi (Scalar.addi (Scalar.muli (BitVec.ofNat 32 (i 0).val) 2#32) (BitVec.ofNat 32 g.val)) 1#32 = BitVec.ofNat 32 (reg i g).val - 1#32 := by
  have h : (i 0).val < 128 := (i 0).isLt
  refine congrArg (· - 1#32) (BitVec.eq_of_toNat_eq ?_)
  have hg := g.isLt
  simp only [Scalar.addi, Scalar.muli, IntOp.addi, IntOp.muli, reg, BitVec.toNat_add, BitVec.toNat_mul, BitVec.toNat_ofNat]
  omega

/-- The first window's block index at a step: the image of the step's first region. -/
theorem index_first (pf : pre0.Contents (Elt F)) (i : grid0.Coords) :
    ix0 pf 0 i = ![image (counts pf) (BitVec.ofNat 32 (reg i 0).val - 1#32), 0, 0, 0] := by
  have e : ix0 pf 0 i = ![(flagWord fun b => IntOp.cmpi .sge (Scalar.subi (Scalar.addi (Scalar.muli (BitVec.ofNat 32 (i 0).val) 2#32) (BitVec.ofNat 32 (0 : Fin 2).val)) 1#32) (entry pf b)).toNat, 0, 0, 0] := rfl
  rw [e, flagWord_toNat, reg_word]
  simp only [entry_eq]
  rfl

/-- The second window's: the image of the step's second region. -/
theorem index_second (pf : pre0.Contents (Elt F)) (i : grid0.Coords) :
    ix0 pf 1 i = ![image (counts pf) (BitVec.ofNat 32 (reg i 1).val - 1#32), 0, 0, 0] := by
  have e : ix0 pf 1 i = ![(flagWord fun b => IntOp.cmpi .sge (Scalar.subi (Scalar.addi (Scalar.muli (BitVec.ofNat 32 (i 0).val) 2#32) (BitVec.ofNat 32 (1 : Fin 2).val)) 1#32) (entry pf b)).toNat, 0, 0, 0] := rfl
  rw [e, flagWord_toNat, reg_word]
  simp only [entry_eq]
  rfl

/-- A block whose index is below 8 on the first axis and 0 on the others lies inside the array. -/
theorem block_inside (n : ℕ) (hn : n < 8) (x : Fin 4 → ℕ) (h : x = ![n, 0, 0, 0]) (a : Fin 4) : (x a + 1) * S1x56x56x256.size a ≤ S8x56x56x256.size a := by
  subst h
  fin_cases a
  · show (n + 1) * 1 ≤ 8; omega
  · show (0 + 1) * 56 ≤ 56; omega
  · show (0 + 1) * 56 ≤ 56; omega
  · show (0 + 1) * 256 ≤ 256; omega

/-- Whatever the table holds, both windows' blocks lie inside the array at every step. -/
theorem ok_all (pf : pre0.Contents (Elt F)) : ok0 pf :=
  ⟨fun i => ⟨block_inside _ (image_lt _ _) _ (index_first pf i), Or.inl rfl⟩,
    fun i => ⟨block_inside _ (image_lt _ _) _ (index_second pf i), Or.inl rfl⟩⟩

end

end Cert.KernelIdeal.Roi

end
-- ==== Proof.Ideal.Value.lean ====
/- The idealized kernel's result: at every region, bin and channel, the largest pixel of the region's image in that bin. -/
module

public import proofs.«01_k».proof.Proof.Ideal.Frame
public import proofs.«01_k».proof.Proof.Ideal.Image
public import Idealize.ShloMosaic.Lib.Pipeline.ValueKit
public import Idealize.ShloMosaic.Lib.Pipeline.Covers
public import Idealize.ShloMosaic.Lib.Pointwise.Tactic

@[expose] public section

set_option maxRecDepth 16384

noncomputable section

namespace Cert.KernelIdeal.Roi

open Cert.KernelIdeal Cert.KernelIdeal.Gen Cert.Roi
open Idealize.ShloMosaic Idealize.ShloMosaic.Pipeline Idealize.ShloMosaic.TcCoe Idealize.ShloMosaic.Tactic
open Idealize.SL Idealize.SL.Sem

variable (m : (ℓ : Loc nD τ sig) → Buf (Elt Ideal) ℓ)

/-- One image of the feature map, channels last. -/
def imageOf (f : S8x256x56x56.Idx → EReal) (n : Fin 8) : Vec Ideal S1x56x56x256 .f32 := fun z => f (ix4 n (z 3) (z 1) (z 2))

/-- The image of region `r` under a table of running counts. -/
def imageAt (cs : Fin 8 → BitVec 32) (r : Fin 256) : Fin 8 := ⟨image cs (BitVec.ofNat 32 r.val - 1#32), image_lt _ _⟩

/-- The array the first window and the second read: the feature map with its channels last. -/
theorem V_main_v1 (c : Dev nD) : (show S8x56x56x256.Idx → EReal from V m c main_v1)
    = transpose S8x56x56x256 [0, 2, 3, 1] (show S8x256x56x56.Idx → EReal from m ((c : Thread nD τ).loc main_arg0)) transposes_S8x256x56x56_S8x56x56x256_0_2_3_1 := by
  show StableHlo.after _ _ (Proc.devRef .tc main_v1) = _
  simp only [List.flatten_cons, List.flatten_nil, List.append_nil, hostOps0, hostOps0_1, List.cons_append, List.nil_append]
  after_results

theorem read_image (f : S8x256x56x56.Idx → EReal) (n : Fin 8) (e : S1x56x56x256.Idx → S8x56x56x256.Idx)
    (h : ∀ y a, (e y a).val = (![n.val, 0, 0, 0] : Fin 4 → ℕ) a * S1x56x56x256.size a + (y a).val) :
    (fun y => transpose S8x56x56x256 [0, 2, 3, 1] f transposes_S8x256x56x56_S8x56x56x256_0_2_3_1 (e y)) = imageOf f n := by
  funext y
  refine (Pointwise.transpose_apply _ _ _ _).trans (congrArg f (funext fun a => Fin.ext ?_))
  have h0 := h y 0; have h1 := h y 1; have h2 := h y 2; have h3 := h y 3
  have hy : (y 0).val < 1 := (y 0).isLt
  fin_cases a
  · show (e y 0).val = n.val
    rw [h0]; show n.val * 1 + (y 0).val = n.val; omega
  · show (e y 3).val = (y 3).val
    rw [h3]; show 0 * 256 + (y 3).val = (y 3).val; omega
  · show (e y 1).val = (y 1).val
    rw [h1]; show 0 * 56 + (y 1).val = (y 1).val; omega
  · show (e y 2).val = (y 2).val
    rw [h2]; show 0 * 56 + (y 2).val = (y 2).val; omega

theorem iblk0 (hO : Ok m) (c : Dev nD) (t : Fin (cfgM m hO).N) :
    iblk m hO c 0 t = imageOf (m ((c : Thread nD τ).loc main_arg0)) (imageAt (counts (tbl m)) (regAt m hO t 0)) := by
  refine Eq.trans ?_ (read_image (m ((c : Thread nD τ).loc main_arg0)) _ (((cfgM m hO).win 0).blk t).view.emb ?_)
  · rw [← V_main_v1]; rfl
  · intro y a
    exact (Pipeline.Window.rect_emb_val ((cfgM m hO).win 0) t y a).trans
      (congrArg (fun n => n * S1x56x56x256.size a + (y a).val) (congrFun (index_first (tbl m) (grid0.coords t)) a))

theorem iblk1 (hO : Ok m) (c : Dev nD) (t : Fin (cfgM m hO).N) :
    iblk m hO c 1 t = imageOf (m ((c : Thread nD τ).loc main_arg0)) (imageAt (counts (tbl m)) (regAt m hO t 1)) := by
  refine Eq.trans ?_ (read_image (m ((c : Thread nD τ).loc main_arg0)) _ (((cfgM m hO).win 1).blk t).view.emb ?_)
  · rw [← V_main_v1]; rfl
  · intro y a
    exact (Pipeline.Window.rect_emb_val ((cfgM m hO).win 1) t y a).trans
      (congrArg (fun n => n * S1x56x56x256.size a + (y a).val) (congrFun (index_second (tbl m) (grid0.coords t)) a))

/-- The largest pixel of region `r`'s image in the region's bin of row `n` and column `j`, at channel `ch`. -/
def best (c : Dev nD) (r : Fin 256) (n j : ℕ) (ch : Fin 256) : EReal :=
  binSup (imageOf (m ((c : Thread nD τ).loc main_arg0)) (imageAt (counts (tbl m)) r)) (box m r) n j ch

theorem out2 (hO : Ok m) (c : Dev nD) (t : Fin (cfgM m hO).N) (y : S2x49x256.Idx) (r : Fin 256) (hr : r.val = (grid0.coords t 0).val * 2 + (y 0).val) :
    outFun (iblk m hO c 0 t) (iblk m hO c 1 t) (box m (regAt m hO t 0)) (box m (regAt m hO t 1)) y
      = best m c r ((y 1).val % 7) ((y 1).val / 7) (y 2) := by
  rw [iblk0, iblk1]
  have hy : (y 0).val < 2 := (y 0).isLt
  unfold outFun best
  split
  · rename_i h
    have e : r = regAt m hO t 0 := Fin.ext (by rw [hr, h]; rfl)
    rw [e]
  · rename_i h
    have e : r = regAt m hO t 1 := Fin.ext (by rw [hr, show (y 0).val = 1 by omega]; rfl)
    rw [e]

/-- One element of a block and the array's element it is written to. -/
theorem point2 (hO : Ok m) (c : Dev nD) (t : Fin (cfgM m hO).N) (y : S2x49x256.Idx) (z : S256x49x256.Idx)
    (e : ∀ a : Fin 3, (z a).val = cc0_transform_2 (grid0.coords t) a * S2x49x256.size a + (y a).val) :
    outFun (iblk m hO c 0 t) (iblk m hO c 1 t) (box m (regAt m hO t 0)) (box m (regAt m hO t 1)) y
      = best m c (z 0) ((z 1).val % 7) ((z 1).val / 7) (z 2) := by
  have hi : (grid0.coords t 0).val < 128 := (grid0.coords t 0).isLt
  have f0 : (z 0).val = (grid0.coords t 0).val * 2 + (y 0).val := by
    rw [e 0]
    show (BitVec.ofNat 32 (grid0.coords t 0).val).toNat * 2 + _ = _
    rw [BitVec.toNat_ofNat, Nat.mod_eq_of_lt (by omega)]
  have f1 : (z 1).val = (y 1).val := by
    rw [e 1]; show 0 * 49 + _ = _; omega
  have f2 : z 2 = y 2 := by
    apply Fin.ext; rw [e 2]; show 0 * 256 + _ = _; omega
  rw [out2 m hO c t y (z 0) f0, f1, f2]

/-- The array the pipeline writes, after the run. -/
theorem final (hO : Ok m) (c : Dev nD) : (dats m hO 0 c).arrAt 2 (cfgM m hO).N
    = fun z : S256x49x256.Idx => best m c (z 0) ((z 1).val % 7) ((z 1).val / 7) (z 2) := by
  refine (dats m hO 0 c).arrAt_eq_of_covers 2 _ (((cfgM m hO).win 2).covers_of_indexMap_surj rfl (fun a => (by decide : ∀ a : Fin 3, 0 < S2x49x256.size a) a) fun β => ?_) fun t hf y => ?_
  · have h0 : (β (0 : Fin 3)).val < 128 := lt_of_lt_of_eq (β (0 : Fin 3)).isLt (show (256 + 2 - 1) / 2 = 128 by decide)
    have h1 : (β (1 : Fin 3)).val < 1 := lt_of_lt_of_eq (β (1 : Fin 3)).isLt (show (49 + 49 - 1) / 49 = 1 by decide)
    have h2 : (β (2 : Fin 3)).val < 1 := lt_of_lt_of_eq (β (2 : Fin 3)).isLt (show (256 + 256 - 1) / 256 = 1 by decide)
    refine ⟨fun a => ⟨(β (0 : Fin 3)).val, ?_⟩, fun a => ?_⟩
    · fin_cases a; exact h0
    · change Fin 3 at a
      fin_cases a
      · show (BitVec.ofNat 32 (β (0 : Fin 3)).val).toNat = _
        rw [BitVec.toNat_ofNat]; exact Nat.mod_eq_of_lt (by omega)
      · show 0 = (β (1 : Fin 3)).val; omega
      · show 0 = (β (2 : Fin 3)).val; omega
  · exact (congrFun (after2 m hO c t) _).trans (point2 m hO c t y _ fun a => Pipeline.Window.rect_emb_val ((cfgM m hO).win 2) t y a)

/-- The rows of 49 bins, bin `7 j + i` for row `i` and column `j`, reshaped and with their axes reordered. -/
theorem reshaped (A : S256x49x256.Idx → EReal) (B : S256x256x7x7.Idx → EReal)
    (h : ∀ (r : Fin 256) (n j : Fin 7) (ch : Fin 256), A (ix3 r ⟨j.val * 7 + n.val, by omega⟩ ch) = B (ix4 r ch n j)) :
    transpose S256x256x7x7 [0, 3, 2, 1] (shapeCast S256x7x7x256 A shapeCasts_S256x49x256_S256x7x7x256) transposes_S256x7x7x256_S256x256x7x7_0_3_2_1 = B := by
  funext i
  obtain ⟨r, ch, n, j, rfl⟩ : ∃ r ch n j, i = ix4 r ch n j := ⟨i 0, i 1, i 2, i 3, by funext a; fin_cases a <;> rfl⟩
  rw [← h]
  pointwise

/-- The result the kernel leaves: region by channel by bin row by bin column. -/
def result (c : Dev nD) : S256x256x7x7.Idx → EReal := fun i => best m c (i 0) (i 2).val (i 3).val (i 1)

theorem W_main_v4 (hO : Ok m) (c : Dev nD) :
    Pipeline.afterTail pcfgs (fun _ => adm m hO) (dats m hO) 0 (V0 m) [hostOps1] c main_v4 = result m c := by
  unfold Pipeline.afterTail
  simp only [List.flatten_cons, List.flatten_nil, List.append_nil, hostOps1]
  after_results
  rw [show (Pipeline.withArrays (Pipeline.pin pcfgs (fun _ => adm m hO) 0).spec c (V0 m c) (fun w => (dats m hO 0 c).arrAt w (Pipeline.pin pcfgs (fun _ => adm m hO) 0).N) (Proc.tc.devRef main_v2))
      = _ from ((dats m hO 0 c).withArrays_arrAt sharedIn0 (V0 m c) (A_eq m hO c) 2).trans (final m hO c)]
  exact reshaped _ _ fun r n j ch => by
    show best m c r ((j.val * 7 + n.val) % 7) ((j.val * 7 + n.val) / 7) ch = best m c r n.val j.val ch
    rw [show (j.val * 7 + n.val) % 7 = n.val by omega, show (j.val * 7 + n.val) / 7 = j.val by omega]

/-- The run: it ends with `main_v4` at the result and the arguments as launched. -/
theorem value_run (ρ : Dev nD → PrngReg) (hO : Ok m) (hB : ∀ r, (box m r).Ok) :
    θ_run defs (onTc (τ := τ) (main (F := Ideal))) (s₀ m ρ) (fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h.1 c).2 main_v4 (by decide : main_v4 ∈ Pipeline.restRefs sig spec0)).trans (W_main_v4 m hO c),
    ((h.1 c).2 main_arg0 (by decide : main_arg0 ∈ Pipeline.restRefs sig spec0)).trans (W_main_arg0 m hO (dats m hO) c),
    ((h.1 c).2 main_arg1 (by decide : main_arg1 ∈ Pipeline.restRefs sig spec0)).trans (W_main_arg1 m hO (dats m hO) c),
    ((h.1 c).2 main_arg2 (by decide : main_arg2 ∈ Pipeline.restRefs sig spec0)).trans (W_main_arg2 m hO (dats m hO) c)⟩)
    (run_main m ρ hO hB)

end Cert.KernelIdeal.Roi

end
-- ==== Proof.Ref.Stages.lean ====
/- The reference's result in stages: the image of each region, the bin of each pixel, the pixels of each bin, their maximum. -/
module

public import proofs.«01_k».proof.Proof.Gen.ReferenceIdeal.Run
public import Idealize.ShloMosaic.Lib.Pointwise.Tactic
public import Idealize.ShloMosaic.Lib.Pointwise.Reduce

@[expose] public section

set_option maxRecDepth 16384

noncomputable section

namespace Cert.ReferenceIdeal.Roi

open Cert.ReferenceIdeal Cert.ReferenceIdeal.Gen Cert.ReferenceIdeal.Value
open Idealize.ShloMosaic Idealize.ShloMosaic.TcCoe

/-- One corner column of the table, as a column. -/
abbrev col (x : IVec S256x4 32) (k : Fin 4) (h : S256x4.Slices ![0, k.val] S256x1) : IVec S256x1 32 :=
  broadcastInDim S256x1 ![0] bcast_S256_S256x1_0 (shapeCast S256 (extractStridedSlice S256x1 ![0, k.val] x h) shapeCasts_S256x1_S256)

/-- The same number at every region and pixel. -/
abbrev splat (v : BitVec 32) : IVec S256x56 32 := broadcastInDim S256x56 ![] bcast_S_S256x56 (constantI S_ 32 v)

/-- A column of numbers repeated along the pixels. -/
abbrev along (v : IVec S256x1 32) : IVec S256x56 32 := broadcastInDim S256x56 ![0, 1] bcast_S256x1_S256x56_0_1 v

/-- How far each pixel lies past the low corner. -/
def past (lo : IVec S256x1 32) : IVec S256x56 32 :=
  subi (broadcastInDim S256x56 ![0, 1] bcast_S1x56_S256x56_0_1 (broadcastInDim S1x56 ![1] bcast_S56_S1x56_1 (iotaInDim S56 32 0))) (along lo)

/-- Whether each pixel lies between the corners. -/
def between (lo hi : IVec S256x1 32) : IVec S256x56 1 := andi (cmpi .sge (past lo) (splat 0#32)) (cmpi .slt (past lo) (along (subi hi lo)))

/-- The extent between the corners, at least 1. -/
def extent (lo hi : IVec S256x1 32) : IVec S256x1 32 := maxsi (subi hi lo) (broadcastInDim S256x1 ![] bcast_S_S256x1 (constantI S_ 32 1#32))

/-- What is divided to find each pixel's bin. -/
def upper (lo hi : IVec S256x1 32) : IVec S256x56 32 := subi (addi (muli (addi (past lo) (splat 1#32)) (splat 7#32)) (along (extent lo hi))) (splat 1#32)

/-- The bin of each pixel: a division rounding down, less 1. -/
def binIdx (lo hi : IVec S256x1 32) : IVec S256x56 32 :=
  subi (select (andi (cmpi .ne (signi (upper lo hi)) (along (signi (extent lo hi)))) (cmpi .ne (Host.remsi (upper lo hi) (along (extent lo hi))) (splat 0#32)))
    (subi (Host.divsi (upper lo hi) (along (extent lo hi))) (splat 1#32)) (Host.divsi (upper lo hi) (along (extent lo hi)))) (splat 1#32)

/-- The number of each pixel's bin among the 49 of a region; 49 for a pixel outside it. -/
def seg (x : IVec S256x4 32) : IVec S256x56x56 32 :=
  select (andi (broadcastInDim S256x56x56 ![0, 1, 2] bcast_S256x56x1_S256x56x56_0_1_2 (broadcastInDim S256x56x1 ![0, 1] bcast_S256x56_S256x56x1_0_1
        (between (col x 1 slices_S256x4_S256x1_0_1) (col x 3 slices_S256x4_S256x1_0_3))))
      (broadcastInDim S256x56x56 ![0, 1, 2] bcast_S256x1x56_S256x56x56_0_1_2 (broadcastInDim S256x1x56 ![0, 2] bcast_S256x56_S256x1x56_0_2
        (between (col x 0 slices_S256x4_S256x1_0_0) (col x 2 slices_S256x4_S256x1_0_2)))))
    (addi (broadcastInDim S256x56x56 ![0, 1, 2] bcast_S256x56x1_S256x56x56_0_1_2
        (muli (broadcastInDim S256x56x1 ![0, 1] bcast_S256x56_S256x56x1_0_1 (binIdx (col x 1 slices_S256x4_S256x1_0_1) (col x 3 slices_S256x4_S256x1_0_3)))
          (broadcastInDim S256x56x1 ![] bcast_S_S256x56x1 (constantI S_ 32 7#32))))
      (broadcastInDim S256x56x56 ![0, 1, 2] bcast_S256x1x56_S256x56x56_0_1_2
        (broadcastInDim S256x1x56 ![0, 2] bcast_S256x56_S256x1x56_0_2 (binIdx (col x 0 slices_S256x4_S256x1_0_0) (col x 2 slices_S256x4_S256x1_0_2)))))
    (broadcastInDim S256x56x56 ![] bcast_S_S256x56x56 (id (constantI S_ 32 49#32)))

/-- The running counts of regions. -/
def counts (z : IVec S8 32) : IVec S8 32 :=
  Host.reduceWindow IntOp.addi ![8] ![1] ![7] ![0] z (broadcastInDim S_ ![] bcast_S_S_ (constantI S_ 32 0#32)) reduceWindows_S8_S8_w8s1p7_0 h_S_

/-- How many of the running counts each region's number reaches. -/
def reached (cs : IVec S8 32) : IVec S256 32 :=
  Host.reduce IntOp.addi (extui 32 (cmpi .sle (broadcastInDim S256x8 ![0, 1] bcast_S1x8_S256x8_0_1 (broadcastInDim S1x8 ![1] bcast_S8_S1x8_1 cs))
      (broadcastInDim S256x8 ![0, 1] bcast_S256x1_S256x8_0_1
        (broadcastInDim S256x1 ![0] bcast_S256_S256x1_0 (subi (iotaInDim S256 32 0) (broadcastInDim S256 ![] bcast_S_S256 (constantI S_ 32 1#32)))))) natLt_1_32)
    (constantI S_ 32 0#32) reducesTo_S256x8_S256_d1 h_S_

/-- The same cut off to the images' range. -/
def clipped (cs : IVec S8 32) : IVec S256 32 :=
  minsi (broadcastInDim S256 ![] bcast_S_S256 (id (constantI S_ 32 7#32))) (maxsi (broadcastInDim S256 ![] bcast_S_S256 (id (constantI S_ 32 0#32))) (reached cs))

/-- The image's index as the gather takes it, a negative one counted from the end. -/
def imgIdx (cs : IVec S8 32) : IVec S256x1 32 :=
  broadcastInDim S256x1 ![0] bcast_S256_S256x1_0
    (select (cmpi .slt (clipped cs) (broadcastInDim S256 ![] bcast_S_S256 (constantI S_ 32 0#32)))
      (addi (clipped cs) (broadcastInDim S256 ![] bcast_S_S256 (constantI S_ 32 8#32))) (clipped cs))

/-- The image of each region. -/
def images (f : FVec Ideal S8x256x56x56 .f32) (cs : IVec S8 32) : FVec Ideal S256x256x56x56 .f32 :=
  Host.gather gather_S8x256x56x56_S256x1_S256x256x56x56_123_0_n_n_0_1_12565656 f (imgIdx cs)

/-- Each region's image, minus infinity outside each bin. -/
def masked (v : FVec Ideal S256x256x56x56 .f32) (s : IVec S256x56x56 32) : FVec Ideal S256x256x49x56x56 .f32 :=
  select (broadcastInDim S256x256x49x56x56 ![0, 1, 2, 3, 4] bcast_S256x1x49x56x56_S256x256x49x56x56_0_1_2_3_4
      (broadcastInDim S256x1x49x56x56 ![0, 2, 3, 4] bcast_S256x49x56x56_S256x1x49x56x56_0_2_3_4
        (cmpi .eq (broadcastInDim S256x49x56x56 ![0, 1, 2, 3] bcast_S256x1x56x56_S256x49x56x56_0_1_2_3 (broadcastInDim S256x1x56x56 ![0, 2, 3] bcast_S256x56x56_S256x1x56x56_0_2_3 s))
          (broadcastInDim S256x49x56x56 ![0, 1, 2, 3] bcast_S1x49x1x1_S256x49x56x56_0_1_2_3 (broadcastInDim S1x49x1x1 ![1] bcast_S49_S1x49x1x1_1 (iotaInDim S49 32 0))))))
    (broadcastInDim S256x256x49x56x56 ![0, 1, 2, 3, 4] bcast_S256x256x1x56x56_S256x256x49x56x56_0_1_2_3_4
      (broadcastInDim S256x256x1x56x56 ![0, 1, 3, 4] bcast_S256x256x56x56_S256x256x1x56x56_0_1_3_4 v))
    (broadcastInDim S256x256x49x56x56 ![] bcast_S_S256x256x49x56x56 (id (constant S_ .f32 0xFF800000#32)))

/-- The maximum of each bin. -/
def pooled (x : FVec Ideal S256x256x49x56x56 .f32) : FVec Ideal S256x256x49 .f32 :=
  Host.reduce FloatOps.maximumf x (constant S_ .f32 0xFF800000#32) reducesTo_S256x256x49x56x56_S256x256x49_d3_4 h_S_

/-- A bin with no pixel holds zero; the 49 bins as rows and columns. -/
def laidOut (x : FVec Ideal S256x256x49 .f32) : FVec Ideal S256x256x7x7 .f32 :=
  shapeCast S256x256x7x7 (select (cmpf .oeq x (broadcastInDim S256x256x49 ![] bcast_S_S256x256x49 (constant S_ .f32 0xFF800000#32)))
    (broadcastInDim S256x256x49 ![] bcast_S_S256x256x49 (id (constant S_ .f32 0x00000000#32))) x) shapeCasts_S256x256x49_S256x256x7x7

/-- The reference's result is these stages composed. -/
theorem res_stages (m : (ℓ : Loc nD τ sig) → Buf (Elt Ideal) ℓ) (c : Dev nD) : (show FVec Ideal S256x256x7x7 .f32 from res_out0 m c)
    = laidOut (pooled (masked (images (m ((c.tc : Thread nD τ).loc main_arg0)) (counts (m ((c.tc : Thread nD τ).loc main_arg2)))) (seg (m ((c.tc : Thread nD τ).loc main_arg1))))) := by
  rfl

end Cert.ReferenceIdeal.Roi

end
-- ==== Proof.Ref.Axis.lean ====
/- One axis of the reference's bins, over 32-bit words: which pixels lie in a region and which of its seven bins each is in. -/
module

public import proofs.«01_k».proof.Proof.Words
public import Idealize.ShloMosaic.Lib.ReduceAll
public import Idealize.ShloMosaic.Lib.WordCmp

@[expose] public section

set_option maxRecDepth 16384

namespace Cert.Roi

open Idealize.ShloMosaic

/-- Whether a pixel `d` past the low corner lies in an extent `e`. -/
def inside (d e : BitVec 32) : BitVec 1 := IntOp.andi (IntOp.cmpi .sge d 0#32) (IntOp.cmpi .slt d e)

/-- The sign of a word. -/
def sgn (x : BitVec 32) : BitVec 32 := if x = 0#32 then 0#32 else if x.msb = true then -1 else 1

/-- What is divided to find the bin: the far edge of the pixel, in sevenths, rounded up. -/
def numer (d e : BitVec 32) : BitVec 32 := IntOp.subi (IntOp.addi (IntOp.muli (IntOp.addi d 1#32) 7#32) e) 1#32

/-- The reference's floor division of two words. -/
def quot (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- The bin of a pixel `d` past the low corner, of an extent `e`. -/
def binWord (d e : BitVec 32) : BitVec 32 := IntOp.subi (quot (numer d (IntOp.maxsi e 1#32)) (IntOp.maxsi e 1#32)) 1#32

/-- In the drawn range the bin of a pixel is the one whose edges it lies between. -/
theorem binWord_spec : ∀ e d : Fin 28, 8 ≤ e.val → d.val < e.val →
    ∃ q : Fin 7, binWord (BitVec.ofNat 32 d.val) (BitVec.ofNat 32 e.val) = BitVec.ofNat 32 q.val
      ∧ ∀ n : Fin 7, q = n ↔ (n.val * e.val / 7 ≤ d.val ∧ d.val < (n.val + 1) * e.val / 7) := by
  decide +kernel

/-- Seven times a row bin and a column bin, added as words, name one bin of 49. -/
theorem pair_word : ∀ q s n j : Fin 7,
    IntOp.addi (IntOp.muli (BitVec.ofNat 32 q.val) 7#32) (BitVec.ofNat 32 s.val) = BitVec.ofNat 32 (n.val * 7 + j.val) ↔ (q = n ∧ s = j) := by
  decide +kernel

theorem none_word : ∀ n j : Fin 7, 49#32 ≠ BitVec.ofNat 32 (n.val * 7 + j.val) := by
  decide +kernel

/-- A pixel of an axis lies in a region exactly between the corners. -/
theorem inside_iff (lo hi : BitVec 32) (k : Fin 56) (h1 : lo.toNat + 8 ≤ hi.toNat) (h2 : hi.toNat ≤ lo.toNat + 27) (h3 : hi.toNat ≤ 56) :
    inside (IntOp.subi (BitVec.ofNat 32 k.val) lo) (IntOp.subi hi lo) = 1#1 ↔ lo.toNat ≤ k.val ∧ k.val < hi.toNat := by
  have hk := k.isLt
  unfold inside
  rw [IntOp.andi_eq_one, IntOp.cmpi_sge, IntOp.cmpi_slt]
  simp only [IntOp.subi, BitVec.toInt_eq_toNat_cond, BitVec.toNat_sub, BitVec.toNat_ofNat]
  constructor
  · rintro ⟨a, b⟩
    constructor <;> omega
  · rintro ⟨a, b⟩
    constructor <;> omega

/-- A pixel of an axis is either outside the region, and in no bin of it, or inside it and in one bin. -/
theorem axis (lo hi : BitVec 32) (k : Fin 56) (h1 : lo.toNat + 8 ≤ hi.toNat) (h2 : hi.toNat ≤ lo.toNat + 27) (h3 : hi.toNat ≤ 56) :
    (inside (IntOp.subi (BitVec.ofNat 32 k.val) lo) (IntOp.subi hi lo) = 1#1 ∧
      ∃ q : Fin 7, binWord (IntOp.subi (BitVec.ofNat 32 k.val) lo) (IntOp.subi hi lo) = BitVec.ofNat 32 q.val ∧
        ∀ n : Fin 7, q = n ↔ k.val ∈ Finset.Ico (lo.toNat + n.val * (hi.toNat - lo.toNat) / 7) (lo.toNat + (n.val + 1) * (hi.toNat - lo.toNat) / 7))
    ∨ (inside (IntOp.subi (BitVec.ofNat 32 k.val) lo) (IntOp.subi hi lo) = 0#1 ∧
        ∀ n : Fin 7, k.val ∉ Finset.Ico (lo.toNat + n.val * (hi.toNat - lo.toNat) / 7) (lo.toNat + (n.val + 1) * (hi.toNat - lo.toNat) / 7)) := by
  have hk := k.isLt
  have hi' := inside_iff lo hi k h1 h2 h3
  by_cases hc : lo.toNat ≤ k.val ∧ k.val < hi.toNat
  · left
    refine ⟨hi'.2 hc, ?_⟩
    obtain ⟨q, hq, hn⟩ := binWord_spec ⟨hi.toNat - lo.toNat, by omega⟩ ⟨k.val - lo.toNat, by omega⟩ (by dsimp only; omega) (by dsimp only; omega)
    have e1 : IntOp.subi (BitVec.ofNat 32 k.val) lo = BitVec.ofNat 32 (k.val - lo.toNat) := by
      refine BitVec.eq_of_toNat_eq ?_
      simp only [IntOp.subi, BitVec.toNat_sub, BitVec.toNat_ofNat]
      omega
    have e2 : IntOp.subi hi lo = BitVec.ofNat 32 (hi.toNat - lo.toNat) := by
      refine BitVec.eq_of_toNat_eq ?_
      simp only [IntOp.subi, BitVec.toNat_sub, BitVec.toNat_ofNat]
      omega
    refine ⟨q, by rw [e1, e2]; exact hq, fun n => (hn n).trans ?_⟩
    rw [Finset.mem_Ico]
    dsimp only
    omega
  · right
    refine ⟨?_, fun n hm => hc ?_⟩
    · rcases (by decide : ∀ b : BitVec 1, b = 1#1 ∨ b = 0#1) (inside (IntOp.subi (BitVec.ofNat 32 k.val) lo) (IntOp.subi hi lo)) with h | h
      · exact absurd (hi'.1 h) hc
      · exact h
    · rw [Finset.mem_Ico] at hm
      have hn := n.isLt
      have hle : (n.val + 1) * (hi.toNat - lo.toNat) ≤ 7 * (hi.toNat - lo.toNat) := Nat.mul_le_mul_right _ (by omega)
      generalize (n.val + 1) * (hi.toNat - lo.toNat) = A at *
      generalize n.val * (hi.toNat - lo.toNat) = B at *
      omega

end Cert.Roi
-- ==== Proof.Ref.Read.lean ====
/- The reference's stages read at one element. -/
module

public import proofs.«01_k».proof.Proof.Ref.Stages
public import proofs.«01_k».proof.Proof.Ref.Axis
public import proofs.«01_k».proof.Proof.Pre
public import proofs.«01_k».proof.Proof.Ideal.Image
public import Mathlib.Data.BitVec
public import Idealize.ShloMosaic.Lib.Pointwise.Tactic
public import Idealize.ShloMosaic.Lib.Pointwise.Reduce
public import Idealize.ShloMosaic.Lib.Pipeline.Value

@[expose] public section

set_option maxRecDepth 16384

noncomputable section

namespace Cert.ReferenceIdeal.Roi

open Cert.ReferenceIdeal Cert.ReferenceIdeal.Gen Cert.Roi
open Idealize.ShloMosaic Idealize.ShloMosaic.TcCoe

theorem col_at (x : IVec S256x4 32) (k : Fin 4) (h : S256x4.Slices ![0, k.val] S256x1) (r : Fin 256) : col x k h (ix2 r 0) = x (ix2 r k) := by
  pointwise

theorem between_at (lo hi : IVec S256x1 32) (r : Fin 256) (k : Fin 56) :
    between lo hi (ix2 r k) = inside (IntOp.subi (BitVec.ofNat 32 k.val) (lo (ix2 r 0))) (IntOp.subi (hi (ix2 r 0)) (lo (ix2 r 0))) := by
  unfold between past inside
  pointwise

theorem binIdx_at (lo hi : IVec S256x1 32) (r : Fin 256) (k : Fin 56) :
    binIdx lo hi (ix2 r k) = binWord (IntOp.subi (BitVec.ofNat 32 k.val) (lo (ix2 r 0))) (IntOp.subi (hi (ix2 r 0)) (lo (ix2 r 0))) := by
  unfold binIdx upper extent past binWord quot numer sgn
  pointwise
  rfl

theorem seg_at (x : IVec S256x4 32) (r : Fin 256) (h w : Fin 56) : seg x (ix3 r h w)
    = Scalar.select (IntOp.andi (inside (IntOp.subi (BitVec.ofNat 32 h.val) (x (ix2 r 1))) (IntOp.subi (x (ix2 r 3)) (x (ix2 r 1))))
        (inside (IntOp.subi (BitVec.ofNat 32 w.val) (x (ix2 r 0))) (IntOp.subi (x (ix2 r 2)) (x (ix2 r 0)))))
      (IntOp.addi (IntOp.muli (binWord (IntOp.subi (BitVec.ofNat 32 h.val) (x (ix2 r 1))) (IntOp.subi (x (ix2 r 3)) (x (ix2 r 1)))) 7#32)
        (binWord (IntOp.subi (BitVec.ofNat 32 w.val) (x (ix2 r 0))) (IntOp.subi (x (ix2 r 2)) (x (ix2 r 0))))) 49#32 := by
  rw [← col_at x 0 slices_S256x4_S256x1_0_0, ← col_at x 1 slices_S256x4_S256x1_0_1, ← col_at x 2 slices_S256x4_S256x1_0_2,
    ← col_at x 3 slices_S256x4_S256x1_0_3, ← between_at, ← between_at, ← binIdx_at, ← binIdx_at]
  unfold seg
  generalize col x 0 slices_S256x4_S256x1_0_0 = c0
  generalize col x 1 slices_S256x4_S256x1_0_1 = c1
  generalize col x 2 slices_S256x4_S256x1_0_2 = c2
  generalize col x 3 slices_S256x4_S256x1_0_3 = c3
  pointwise
  rfl

/-- A pixel's bin number is that of row bin `n` and column bin `j` exactly where it lies between the two bins' edges. -/
theorem seg_iff (x : IVec S256x4 32) (r : Fin 256) (hB : (Cert.KernelIdeal.Roi.boxOf (corners x) r).Ok) (h w : Fin 56) (n j : Fin 7) (b : Box) (hb : b = Cert.KernelIdeal.Roi.boxOf (corners x) r) :
    seg x (ix3 r h w) = BitVec.ofNat 32 (n.val * 7 + j.val) ↔
      h.val ∈ Finset.Ico (b.y0 + n.val * (b.y1 - b.y0) / 7) (b.y0 + (n.val + 1) * (b.y1 - b.y0) / 7)
        ∧ w.val ∈ Finset.Ico (b.x0 + j.val * (b.x1 - b.x0) / 7) (b.x0 + (j.val + 1) * (b.x1 - b.x0) / 7) := by
  subst hb
  rw [seg_at]
  have off : ∀ p q : BitVec 1, p = 0#1 ∨ q = 0#1 → IntOp.andi p q = 0#1 := by decide
  rcases axis (x (ix2 r 1)) (x (ix2 r 3)) h hB.y_lo hB.y_hi hB.y_in with ⟨hv, q, hq, hn⟩ | ⟨hv, hn⟩
  · rcases axis (x (ix2 r 0)) (x (ix2 r 2)) w hB.x_lo hB.x_hi hB.x_in with ⟨wv, s, hs, hj⟩ | ⟨wv, hj⟩
    · rw [hv, wv, hq, hs]
      exact (pair_word q s n j).trans (and_congr (hn n) (hj j))
    · rw [off _ _ (Or.inr wv)]
      exact ⟨fun e => absurd e (none_word n j), fun e => absurd e.2 (hj j)⟩
  · rw [off _ _ (Or.inl hv)]
    exact ⟨fun e => absurd e (none_word n j), fun e => absurd e.1 (hn n)⟩

/-- Eight flags added up as words, cut off to the images' range. -/
def idxWord (f : Fin 8 → BitVec 1) : BitVec 32 :=
  let s := IntOp.minsi 7#32 (IntOp.maxsi 0#32 (BitVec.setWidth 32 (f 0) + BitVec.setWidth 32 (f 1) + BitVec.setWidth 32 (f 2) + BitVec.setWidth 32 (f 3)
    + BitVec.setWidth 32 (f 4) + BitVec.setWidth 32 (f 5) + BitVec.setWidth 32 (f 6) + BitVec.setWidth 32 (f 7)))
  Scalar.select (IntOp.cmpi .slt s 0#32) (IntOp.addi s 8#32) s

theorem idxWord_bools : ∀ a b c d e f g h : Bool,
    idxWord ![BitVec.ofBool a, BitVec.ofBool b, BitVec.ofBool c, BitVec.ofBool d, BitVec.ofBool e, BitVec.ofBool f, BitVec.ofBool g, BitVec.ofBool h]
      = BitVec.ofNat 32 (min (a.toNat + b.toNat + c.toNat + d.toNat + e.toNat + f.toNat + g.toNat + h.toNat) 7) := by
  decide +kernel

theorem idxWord_eq (f : Fin 8 → BitVec 1) : idxWord f = BitVec.ofNat 32 (min (∑ b, (f b).toNat) 7) := by
  have hf : ∀ v : BitVec 1, ∃ p : Bool, v = BitVec.ofBool p := by decide
  choose p hp using fun b => hf (f b)
  have h := idxWord_bools (p 0) (p 1) (p 2) (p 3) (p 4) (p 5) (p 6) (p 7)
  simp only [← hp] at h
  have hs : ∑ b, (f b).toNat = (p 0).toNat + (p 1).toNat + (p 2).toNat + (p 3).toNat + (p 4).toNat + (p 5).toNat + (p 6).toNat + (p 7).toNat := by
    simp only [Fin.sum_univ_eight, hp, BitVec.toNat_ofBool]
  rw [hs, ← h]
  rfl

theorem reached_at (cs : IVec S8 32) (r : Fin 256) : reached cs (ix1 r)
    = ∑ b : Fin 8, BitVec.setWidth 32 (IntOp.cmpi .sge (BitVec.ofNat 32 r.val - 1#32) (cs (ix1 b))) := by
  unfold reached
  pointwise
  rfl

/-- The image's index as the gather takes it. -/
theorem imgIdx_at (cs : IVec S8 32) (r : Fin 256) : imgIdx cs (ix2 r 0)
    = BitVec.ofNat 32 (Cert.KernelIdeal.Roi.image (fun b => cs (ix1 b)) (BitVec.ofNat 32 r.val - 1#32)) := by
  refine Eq.trans ?_ (idxWord_eq fun b => IntOp.cmpi .sge (BitVec.ofNat 32 r.val - 1#32) (cs (ix1 b)))
  unfold imgIdx clipped idxWord
  pointwise
  rw [reached_at, Fin.sum_univ_eight]
  rfl

theorem masked_at (v : FVec Ideal S256x256x56x56 .f32) (s : IVec S256x56x56 32) (r : Fin 256) (ch : Fin 256) (p : Fin 49) (h w : Fin 56) :
    masked v s (ix5 r ch p h w) = Scalar.select (IntOp.cmpi .eq (s (ix3 r h w)) (BitVec.ofNat 32 p.val)) (v (ix4 r ch h w)) (⊥ : EReal) := by
  unfold masked
  pointwise
  rw [show (id (constant (F := Ideal) S_ .f32 4286578688#32) ix0) = (⊥ : EReal) from negInf]

theorem laidOut_at (x : FVec Ideal S256x256x49 .f32) (r ch : Fin 256) (n j : Fin 7) (p : Fin 49) (hp : p.val = n.val * 7 + j.val)
    (hx : x (ix3 r ch p) ≠ (⊥ : EReal)) : laidOut x (ix4 r ch n j) = x (ix3 r ch p) := by
  unfold laidOut
  refine (shapeCast_apply _ _ _ (ix3 r ch p) ?_).trans ?_
  · simp [Shape.rowMajor_val_three, Shape.rowMajor_val_four]
    omega
  · pointwise
    rw [negInf, if_neg hx]

theorem start_val (w : BitVec 32) (k : ℕ) (hk : k < 8) (h : w = BitVec.ofNat 32 k) : min w.toInt.toNat 7 = k := by
  subst h
  rw [BitVec.toInt_eq_toNat_cond, BitVec.toNat_ofNat]
  omega

/-- The gather's index vector for a result element is the row of its region. -/
theorem row_at (j : S256x256x56x56.Idx) (q : Fin 1) :
    gather_S8x256x56x56_S256x1_S256x256x56x56_123_0_n_n_0_1_12565656.siIdx j q = ix2 (j 0) 0 := by
  funext b
  fin_cases b
  · rfl
  · exact Subsingleton.elim (α := Fin 1) _ _

/-- The gather read at a pixel: the row named by the region's index, cut off to the operand's rows. -/
theorem gather_at (f : FVec Ideal S8x256x56x56 .f32) (idx : IVec S256x1 32) (r ch : Fin 256) (h w : Fin 56) (n : Fin 8)
    (hn : min (idx (ix2 r 0)).toInt.toNat 7 = n.val) :
    Host.gather gather_S8x256x56x56_S256x1_S256x256x56x56_123_0_n_n_0_1_12565656 f idx (ix4 r ch h w) = f (ix4 n ch h w) := by
  have e : gather_S8x256x56x56_S256x1_S256x256x56x56_123_0_n_n_0_1_12565656.operandIdx (ix4 r ch h w) idx = ix4 n ch h w := by
    funext a
    refine Fin.ext ?_
    fin_cases a
    · have hs : gather_S8x256x56x56_S256x1_S256x256x56x56_123_0_n_n_0_1_12565656.start (ix4 r ch h w) idx 0 = n.val := by
        rw [← hn]
        unfold GatherDims.start
        refine (dif_pos (show (0 : Fin 4) ∈ [(0 : Fin 4)] by decide)).trans ?_
        exact congrArg (fun z => min (idx z).toInt.toNat 7) (row_at (ix4 r ch h w) 0)
      exact (congrArg (fun z => z + 0 + 0) hs).trans (by rfl)
    · show 0 + 0 + ch.val = ch.val
      omega
    · show 0 + 0 + h.val = h.val
      omega
    · show 0 + 0 + w.val = w.val
      omega
  exact congrArg f e

/-- The image of each region, read at a pixel. -/
theorem images_at (f : FVec Ideal S8x256x56x56 .f32) (cs : IVec S8 32) (r ch : Fin 256) (h w : Fin 56) :
    images f cs (ix4 r ch h w) = f (ix4 ⟨Cert.KernelIdeal.Roi.image (fun b => cs (ix1 b)) (BitVec.ofNat 32 r.val - 1#32), Cert.KernelIdeal.Roi.image_lt _ _⟩ ch h w) :=
  gather_at f _ r ch h w _ (start_val _ _ (Cert.KernelIdeal.Roi.image_lt _ _) (imgIdx_at cs r))

/-- The maximum of a bin is the supremum over the pixels. -/
theorem pooled_at (x : FVec Ideal S256x256x49x56x56 .f32) (r ch : Fin 256) (p : Fin 49) :
    pooled x (ix3 r ch p) = Finset.univ.sup fun k : Fin 56 × Fin 56 => (show EReal from x (ix5 r ch p k.1 k.2)) := by
  have hd : ∀ i : S256x256x49x56x56.Idx, reducesTo_S256x256x49x56x56_S256x256x49_d3_4.drop i = ix3 (i 0) (i 1) (i 2) := fun i => by
    funext b
    fin_cases b
    · exact Fin.ext (Shape.ReducesTo.drop_apply_val_of_eq _ i 0 0 (by decide) (by decide))
    · exact Fin.ext (Shape.ReducesTo.drop_apply_val_of_eq _ i 1 1 (by decide) (by decide))
    · exact Fin.ext (Shape.ReducesTo.drop_apply_val_of_eq _ i 2 2 (by decide) (by decide))
  unfold pooled
  rw [Host.reduce_eq_fold]
  refine Eq.trans (b := (Finset.univ.filter fun i => reducesTo_S256x256x49x56x56_S256x256x49_d3_4.drop i = ix3 r ch p).sup fun i => (show EReal from x i)) ?_ ?_
  · show Finset.fold _ (Ideal.ofBits .f32 4286578688#32) _ _ = _
    rw [negInf]
    rfl
  · refine le_antisymm (Finset.sup_le fun i hi => ?_) (Finset.sup_le fun k _ => ?_)
    · have e := (hd i).symm.trans (Finset.mem_filter.1 hi).2
      have e0 : i 0 = r := congrFun e 0
      have e1 : i 1 = ch := congrFun e 1
      have e2 : i 2 = p := congrFun e 2
      have ei : i = ix5 r ch p (i 3) (i 4) := by rw [← e0, ← e1, ← e2]; exact eq_ix5 i
      rw [ei]
      exact Finset.le_sup (f := fun k : Fin 56 × Fin 56 => (show EReal from x (ix5 r ch p k.1 k.2))) (Finset.mem_univ (i 3, i 4))
    · exact Finset.le_sup (f := fun i => (show EReal from x i)) (Finset.mem_filter.2 ⟨Finset.mem_univ _, hd _⟩)

end Cert.ReferenceIdeal.Roi

end
-- ==== Proof.Ref.Match.lean ====
/- The reference's result in the drawn range: at every region, bin and channel, the largest pixel of the region's image in that
   bin, which is the idealized kernel's result. -/
module

public import proofs.«01_k».proof.Proof.Ref.Read
public import proofs.«01_k».proof.Proof.Ideal.Value

@[expose] public section

set_option maxRecDepth 16384

noncomputable section

namespace Cert.ReferenceIdeal.Roi

open Cert.ReferenceIdeal Cert.ReferenceIdeal.Gen Cert.Roi
open Idealize.ShloMosaic Idealize.ShloMosaic.TcCoe
open Cert.KernelIdeal.Roi (boxOf imageOf imageAt px rowSup binSup)

/-- Whether two words are equal, as a choice between two values. -/
theorem select_eq {α : Type} (a b : BitVec 32) (x y : α) : Scalar.select (IntOp.cmpi .eq a b) x y = if a = b then x else y := by
  by_cases h : a = b
  · rw [if_pos h, h]
    unfold Scalar.select IntOp.cmpi
    simp
  · rw [if_neg h]
    unfold Scalar.select IntOp.cmpi
    rw [show (a == b) = false from beq_eq_false_iff_ne.2 h]
    rfl

/-- A pixel inside the map. -/
theorem px_in (f : S8x256x56x56.Idx → EReal) (z : Fin 8) (h w : Fin 56) (ch : Fin 256) : px (imageOf f z) h.val w.val ch = f (ix4 z ch h w) :=
  dif_pos ⟨h.isLt, w.isLt⟩

/-- The far edge of a bin is inside the extent. -/
theorem far_edge (n : Fin 7) (d : ℕ) : (n.val + 1) * d / 7 ≤ d := by
  have hn := n.isLt
  have h : (n.val + 1) * d ≤ 7 * d := Nat.mul_le_mul_right _ (by omega)
  omega

/-- A bin of an extent of at least 7 is not empty. -/
theorem edges_lt (n d : ℕ) (hd : 8 ≤ d) : n * d / 7 < (n + 1) * d / 7 := by
  rw [Nat.add_mul, Nat.one_mul]
  omega

variable (f : FVec Ideal S8x256x56x56 .f32) (x : IVec S256x4 32) (r : Fin 256) (hB : (boxOf (corners x) r).Ok) (z : Fin 8) (ch : Fin 256) (n j : Fin 7)

/-- The pixels of a bin, minus infinity elsewhere. -/
def kept (k : Fin 56 × Fin 56) : EReal := if seg x (ix3 r k.1 k.2) = BitVec.ofNat 32 (n.val * 7 + j.val) then f (ix4 z ch k.1 k.2) else ⊥

include hB in
/-- The supremum over the map of the pixels of a bin is the bin's maximum. -/
theorem kept_sup : (Finset.univ.sup fun k : Fin 56 × Fin 56 => kept f x r z ch n j k) = binSup (imageOf f z) (boxOf (corners x) r) n.val j.val ch := by
  refine le_antisymm (Finset.sup_le fun k _ => ?_) (Finset.sup_le fun w hw => Finset.sup_le fun h hh => ?_)
  · unfold kept
    split_ifs with e
    · obtain ⟨hh, hw⟩ := (seg_iff x r hB k.1 k.2 n j _ rfl).1 e
      rw [← px_in f z k.1 k.2 ch]
      exact le_trans (Finset.le_sup (f := fun h => px (imageOf f z) h k.2.val ch) hh)
        (Finset.le_sup (f := fun w => rowSup (imageOf f z) (boxOf (corners x) r) n.val w ch) hw)
    · exact bot_le
  · have ey := hB.y_in; have ex := hB.x_in; have ly := hB.y_lo; have lx := hB.x_lo
    have fy := far_edge n ((boxOf (corners x) r).y1 - (boxOf (corners x) r).y0)
    have fx := far_edge j ((boxOf (corners x) r).x1 - (boxOf (corners x) r).x0)
    have h1 := (Finset.mem_Ico.1 hh).2; have w1 := (Finset.mem_Ico.1 hw).2
    have hl : h < 56 := by omega
    have wl : w < 56 := by omega
    refine le_trans (le_of_eq ?_) (Finset.le_sup (f := fun k : Fin 56 × Fin 56 => kept f x r z ch n j k) (Finset.mem_univ (⟨h, hl⟩, ⟨w, wl⟩)))
    show _ = kept f x r z ch n j (⟨h, hl⟩, ⟨w, wl⟩)
    unfold kept
    rw [if_pos ((seg_iff x r hB ⟨h, hl⟩ ⟨w, wl⟩ n j _ rfl).2 ⟨hh, hw⟩)]
    exact px_in f z ⟨h, hl⟩ ⟨w, wl⟩ ch

include hB in
/-- A bin's maximum is above minus infinity when every pixel is. -/
theorem binSup_ne (hp : ∀ i, (⊥ : EReal) < f i) : binSup (imageOf f z) (boxOf (corners x) r) n.val j.val ch ≠ ⊥ := by
  have ey := hB.y_in; have ex := hB.x_in; have ly := hB.y_lo; have lx := hB.x_lo
  have fy := far_edge n ((boxOf (corners x) r).y1 - (boxOf (corners x) r).y0)
  have fx := far_edge j ((boxOf (corners x) r).x1 - (boxOf (corners x) r).x0)
  have gy := edges_lt n.val ((boxOf (corners x) r).y1 - (boxOf (corners x) r).y0) (by omega)
  have gx := edges_lt j.val ((boxOf (corners x) r).x1 - (boxOf (corners x) r).x0) (by omega)
  generalize hy : n.val * ((boxOf (corners x) r).y1 - (boxOf (corners x) r).y0) / 7 = A at *
  generalize hx : j.val * ((boxOf (corners x) r).x1 - (boxOf (corners x) r).x0) / 7 = B at *
  have hl : (boxOf (corners x) r).y0 + A < 56 := by omega
  have wl : (boxOf (corners x) r).x0 + B < 56 := by omega
  refine ne_of_gt (lt_of_lt_of_le (hp (ix4 z ch ⟨_, hl⟩ ⟨_, wl⟩)) ?_)
  rw [← px_in f z ⟨_, hl⟩ ⟨_, wl⟩ ch]
  refine le_trans (Finset.le_sup (f := fun h => px (imageOf f z) h ((boxOf (corners x) r).x0 + B) ch) ?_)
    (Finset.le_sup (f := fun w => rowSup (imageOf f z) (boxOf (corners x) r) n.val w ch) ?_)
  · exact Finset.mem_Ico.2 ⟨by rw [hy], by show (boxOf (corners x) r).y0 + A < _; omega⟩
  · exact Finset.mem_Ico.2 ⟨by rw [hx], by show (boxOf (corners x) r).x0 + B < _; omega⟩

end Cert.ReferenceIdeal.Roi

namespace Cert.ReferenceIdeal.Roi

open Cert.ReferenceIdeal Cert.ReferenceIdeal.Gen Cert.Roi
open Idealize.ShloMosaic Idealize.ShloMosaic.TcCoe
open Cert.KernelIdeal.Roi (boxOf imageOf imageAt px rowSup binSup)

/-- The reference's result, element by element. -/
theorem stages_eq (f : FVec Ideal S8x256x56x56 .f32) (x : IVec S256x4 32) (cs : IVec S8 32) (hB : ∀ r, (boxOf (corners x) r).Ok) (hp : ∀ i, (⊥ : EReal) < f i)
    (i : S256x256x7x7.Idx) : laidOut (pooled (masked (images f cs) (seg x))) i
      = binSup (imageOf f (imageAt (fun b => cs (ix1 b)) (i 0))) (boxOf (corners x) (i 0)) (i 2).val (i 3).val (i 1) := by
  obtain ⟨r, ch, n, j, rfl⟩ : ∃ (r ch : Fin 256) (n j : Fin 7), i = ix4 r ch n j := ⟨i 0, i 1, i 2, i 3, eq_ix4 i⟩
  have hn := n.isLt
  have hj := j.isLt
  have e : pooled (masked (images f cs) (seg x)) (ix3 r ch ⟨n.val * 7 + j.val, by omega⟩)
      = binSup (imageOf f (imageAt (fun b => cs (ix1 b)) r)) (boxOf (corners x) r) n.val j.val ch := by
    rw [pooled_at, ← kept_sup f x r (hB r)]
    refine Finset.sup_congr rfl fun k _ => ?_
    rw [masked_at, images_at, select_eq]
    rfl
  exact (laidOut_at _ r ch n j ⟨n.val * 7 + j.val, by omega⟩ rfl (by rw [e]; exact binSup_ne f x r (hB r) _ ch n j hp)).trans e

end Cert.ReferenceIdeal.Roi

namespace Cert.KernelIdeal.Roi

open Cert.KernelIdeal Cert.KernelIdeal.Gen Cert.Roi
open Idealize.ShloMosaic Idealize.ShloMosaic.TcCoe

variable (m : (ℓ : Loc nD τ sig) → Buf (Elt Ideal) ℓ)

/-- The table of running counts is the running sum of the launched numbers of regions. -/
theorem V_main_v0 (c : Dev nD) : (show IVec S8 32 from V m c main_v0)
    = Cert.ReferenceIdeal.Roi.counts (m ((c.tc : Thread nD τ).loc main_arg2)) := by
  show StableHlo.after _ _ (Proc.devRef .tc main_v0) = _
  simp only [List.flatten_cons, List.flatten_nil, List.append_nil, hostOps0, hostOps0_1, List.cons_append, List.nil_append]
  simp only [StableHlo.TRef.binary, StableHlo.TRef.nullary, StableHlo.TRef.unary, StableHlo.TRef.toBuf, StableHlo.TRef.ofBuf, cast_eq]
  after_results
  rfl

/-- The regions of the table are those of the launched array. -/
theorem box_eq (r : Fin 256) : box m r = boxOf (corners (m (((0 : Dev nD).tc : Thread nD τ).loc main_arg1))) r :=
  congrArg (fun a : IVec S256x4 32 => boxOf (corners a) r) (V_main_arg1 m 0)

/-- The idealized kernel's result is the reference's stages of the launched arrays. -/
theorem result_eq (c : Dev nD) (hB : ∀ r, (box m r).Ok) (hp : ∀ i, (⊥ : EReal) < (show FVec Ideal S8x256x56x56 .f32 from m ((c.tc : Thread nD τ).loc main_arg0)) i) :
    result m c = Cert.ReferenceIdeal.Roi.laidOut (Cert.ReferenceIdeal.Roi.pooled (Cert.ReferenceIdeal.Roi.masked
      (Cert.ReferenceIdeal.Roi.images (m ((c.tc : Thread nD τ).loc main_arg0)) (Cert.ReferenceIdeal.Roi.counts (m ((c.tc : Thread nD τ).loc main_arg2))))
      (Cert.ReferenceIdeal.Roi.seg (m ((c.tc : Thread nD τ).loc main_arg1))))) := by
  obtain rfl : c = 0 := Subsingleton.elim _ _
  funext i
  refine Eq.trans ?_ (Cert.ReferenceIdeal.Roi.stages_eq _ _ _ (fun r => box_eq m r ▸ hB r) hp i).symm
  have hc : counts (tbl m) = fun b => Cert.ReferenceIdeal.Roi.counts (m (((0 : Dev nD).tc : Thread nD τ).loc main_arg2)) (ix1 b) :=
    funext fun b => congrFun (V_main_v0 m 0) (ix1 b)
  exact congrArg₂ (fun (k : Fin 8 → BitVec 32) (b : Box) => binSup (imageOf (m (((0 : Dev nD).tc : Thread nD τ).loc main_arg0)) (imageAt k (i 0))) b (i 2).val (i 3).val (i 1))
    hc (box_eq m (i 0))

end Cert.KernelIdeal.Roi

end
-- ==== Proof.lean ====
module

public import proofs.«01_k».proof.Defs
public import proofs.«01_k».proof.Proof.Pre
public import proofs.«01_k».proof.Proof.Run.Frame
public import proofs.«01_k».proof.Proof.Ideal.Value
public import proofs.«01_k».proof.Proof.Ref.Match
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem Cert.Roi

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_in_range.Facts := Cert.Pre_in_range.Gen.facts
local instance : Cert.Pre_drawn.Facts := Cert.Pre_drawn.Gen.facts

/-- The kernel's frame, its regions in range. -/
theorem frame_kernel : Cert.quiescent_Kernel := fun m g h =>
  Cert.Kernel.Roi.frame_run m g (Cert.KernelIdeal.Roi.ok_all (F := Bits) (Cert.Kernel.Roi.tbl m)) fun r => by
    have e : Cert.Kernel.Roi.box m r = Cert.KernelIdeal.Roi.boxOf (corners (m (((0 : Dev Cert.Kernel.nD).tc : Thread Cert.Kernel.nD Cert.Kernel.τ).loc Cert.Kernel.main_arg1))) r :=
      congrArg (fun a : IVec Cert.Kernel.S256x4 32 => Cert.KernelIdeal.Roi.boxOf (corners a) r) (Cert.Kernel.Roi.V_main_arg1 m 0)
    rw [e]
    exact ok_of_in_range _ _ _ (h 0) r

section
open Cert.KernelIdeal Cert.KernelIdeal.Roi

/-- The idealized kernel's frame, its regions in range. -/
theorem frame_ideal_run (m : (ℓ : Loc nD τ sig) → Buf (Elt Ideal) ℓ) (g : Dev nD → PrngReg) (hB : ∀ r, (box m r).Ok) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (by decide : main_arg0 ∈ Pipeline.restRefs sig spec0)).trans (W_main_arg0 m (ok_all (tbl m)) (dats m (ok_all (tbl m))) c),
      ((h.1 c).2 main_arg1 (by decide : main_arg1 ∈ Pipeline.restRefs sig spec0)).trans (W_main_arg1 m (ok_all (tbl m)) (dats m (ok_all (tbl m))) c),
      ((h.1 c).2 main_arg2 (by decide : main_arg2 ∈ Pipeline.restRefs sig spec0)).trans (W_main_arg2 m (ok_all (tbl m)) (dats m (ok_all (tbl m))) c)⟩, h.2⟩)
    (run_main m g (ok_all (tbl m)) hB)

end

theorem frame_ideal : Cert.quiescent_KernelIdeal := fun m g h =>
  frame_ideal_run m g fun r => by
    rw [Cert.KernelIdeal.Roi.box_eq]
    exact ok_of_in_range _ _ _ (h 0) r

theorem box_drawn (m : (ℓ : Loc Cert.KernelIdeal.nD Cert.KernelIdeal.τ Cert.KernelIdeal.sig) → Buf (Elt Ideal) ℓ) (h : Cert.Pre_KernelIdeal_drawn m) (r : Fin 256) :
    (Cert.KernelIdeal.Roi.box m r).Ok := by
  rw [Cert.KernelIdeal.Roi.box_eq]
  exact ok_of_drawn _ _ _ (h 0) r

theorem frame_ideal_drawn : Cert.quiescent_KernelIdeal_pre_drawn := fun m g h => frame_ideal_run m g (box_drawn m h)

/-- The reference's frame: its run, read at the arguments; it declares no semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- The idealized kernel and the reference end with equal results. -/
theorem equal_results : Cert.algebraic_KernelIdeal_ReferenceIdeal_pre_drawn := fun m g m' g' h hargs => by
  refine ⟨fun c => Cert.KernelIdeal.Roi.result m c, Cert.KernelIdeal.Roi.value_run m g (Cert.KernelIdeal.Roi.ok_all (Cert.KernelIdeal.Roi.tbl m)) (box_drawn m h), ?_⟩
  refine (θ_run Cert.ReferenceIdeal.defs _ _).mono (fun r hr c => ⟨(hr c).1.trans ?_, (hr c).2⟩) (Cert.ReferenceIdeal.Value.run (F := Ideal) m' g')
  refine (Cert.ReferenceIdeal.Roi.res_stages m' c).trans ?_
  refine Eq.trans ?_ (Cert.KernelIdeal.Roi.result_eq m c (box_drawn m h) (fun i => pixel_of_drawn _ _ _ (h c) i)).symm
  obtain ⟨h0, h1, h2⟩ := hargs c
  rw [h0, h1, h2]

theorem claim : Cert.Claim :=
  ⟨Cert.Kernel.Gen.facts, Cert.KernelIdeal.Gen.facts, Cert.ReferenceIdeal.Gen.facts, Cert.Pre_in_range.Gen.facts, Cert.Pre_drawn.Gen.facts,
    frame_kernel, frame_ideal, frame_ideal_drawn, frame_reference, fun m g _ => frame_reference m g trivial, trivial, equal_results⟩

end Cert.Proof

end
